-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "sqrt_half" .f32 0x3F3504F3#32 (((Real.sqrt 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x3x256x128x128 : Shape := ⟨5, ![2, 3, 256, 128, 128]⟩
abbrev S3x768x1x1 : Shape := ⟨4, ![3, 768, 1, 1]⟩
abbrev S3 : Shape := ⟨1, ![3]⟩
abbrev S512x256x3x3 : Shape := ⟨4, ![512, 256, 3, 3]⟩
abbrev S512 : Shape := ⟨1, ![512]⟩
abbrev S256x512x3x3 : Shape := ⟨4, ![256, 512, 3, 3]⟩
abbrev S256 : Shape := ⟨1, ![256]⟩
abbrev S_ : Shape := ⟨0, ![]⟩

class Facts : Prop where
  bcast_S_S512 : S_.BroadcastsInDim S512 (![] : Fin 0 → Fin S512.rank)
  bcast_S_S256 : S_.BroadcastsInDim S256 (![] : Fin 0 → Fin S256.rank)

variable [Facts]

def fn {F : FTy → Type} [FloatOps F] (main_arg0 : FVec F S2x3x256x128x128 .f32) (main_arg1 : FVec F S3x768x1x1 .f32) (main_arg2 : FVec F S3 .f32) (main_arg3 : FVec F S512x256x3x3 .f32) (main_arg4 : FVec F S512 .f32) (main_arg5 : FVec F S512 .f32) (main_arg6 : FVec F S512 .f32) (main_arg7 : FVec F S256x512x3x3 .f32) (main_arg8 : FVec F S256 .f32) (main_arg9 : FVec F S256 .f32) (main_arg10 : FVec F S256 .f32) (main_arg11 : FVec F S256 .f32) (main_arg12 : FVec F S256 .f32) : IVec S512 1 × IVec S512 1 × IVec S256 1 :=
  let main_v0 : FVec F S512 .f32 := Host.absf main_arg4
  let main_cst : FVec F S_ .f32 := constant S_ .f32 0x7F800000#32
  let main_v1 : FVec F S512 .f32 := broadcastInDim S512 ![] bcast_S_S512 main_cst
  let main_v2 : IVec S512 1 := cmpf .olt main_v0 main_v1
  let main_v3 : FVec F S512 .f32 := Host.absf main_arg5
  let main_cst_0 : FVec F S_ .f32 := constant S_ .f32 0x7F800000#32
  let main_v4 : FVec F S512 .f32 := broadcastInDim S512 ![] bcast_S_S512 main_cst_0
  let main_v5 : IVec S512 1 := cmpf .olt main_v3 main_v4
  let main_v6 : FVec F S256 .f32 := Host.absf main_arg9
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  (main_v2, main_v5, main_v8)
-- ==== Kernel.lean ====
abbrev S2x3x256x128x128 : Shape := ⟨5, ![2, 3, 256, 128, 128]⟩
abbrev S3x768x1x1 : Shape := ⟨4, ![3, 768, 1, 1]⟩
abbrev S3 : Shape := ⟨1, ![3]⟩
abbrev S512x256x3x3 : Shape := ⟨4, ![512, 256, 3, 3]⟩
abbrev S512 : Shape := ⟨1, ![512]⟩
abbrev S256x512x3x3 : Shape := ⟨4, ![256, 512, 3, 3]⟩
abbrev S256 : Shape := ⟨1, ![256]⟩
abbrev S3x768 : Shape := ⟨2, ![3, 768]⟩
abbrev S3x1 : Shape := ⟨2, ![3, 1]⟩
abbrev S512x2304 : Shape := ⟨2, ![512, 2304]⟩
abbrev S256x4608 : Shape := ⟨2, ![256, 4608]⟩
abbrev S512x1 : Shape := ⟨2, ![512, 1]⟩
abbrev S256x1 : Shape := ⟨2, ![256, 1]⟩
abbrev S2x256x128x128 : Shape := ⟨4, ![2, 256, 128, 128]⟩
abbrev S1x3x256x8x128 : Shape := ⟨5, ![1, 3, 256, 8, 128]⟩
abbrev S1x256x8x128 : Shape := ⟨4, ![1, 256, 8, 128]⟩
abbrev S256x1024 : Shape := ⟨2, ![256, 1024]⟩
abbrev S512x1024 : Shape := ⟨2, ![512, 1024]⟩
abbrev S2304x256 : Shape := ⟨2, ![2304, 256]⟩
abbrev S512x256 : Shape := ⟨2, ![512, 256]⟩
abbrev S512x2303 : Shape := ⟨2, ![512, 2303]⟩
abbrev S512x2302 : Shape := ⟨2, ![512, 2302]⟩
abbrev S512x2 : Shape := ⟨2, ![512, 2]⟩
abbrev S512x2301 : Shape := ⟨2, ![512, 2301]⟩
abbrev S512x3 : Shape := ⟨2, ![512, 3]⟩
abbrev S512x2300 : Shape := ⟨2, ![512, 2300]⟩
abbrev S512x4 : Shape := ⟨2, ![512, 4]⟩
abbrev S512x2299 : Shape := ⟨2, ![512, 2299]⟩
abbrev S512x5 : Shape := ⟨2, ![512, 5]⟩
abbrev S512x2298 : Shape := ⟨2, ![512, 2298]⟩
abbrev S512x6 : Shape := ⟨2, ![512, 6]⟩
abbrev S512x2297 : Shape := ⟨2, ![512, 2297]⟩
abbrev S512x7 : Shape := ⟨2, ![512, 7]⟩
abbrev S512x2296 : Shape := ⟨2, ![512, 2296]⟩
abbrev S512x8 : Shape := ⟨2, ![512, 8]⟩
abbrev S4608x512 : Shape := ⟨2, ![4608, 512]⟩
abbrev S256x512 : Shape := ⟨2, ![256, 512]⟩
abbrev S256x4607 : Shape := ⟨2, ![256, 4607]⟩
abbrev S256x4606 : Shape := ⟨2, ![256, 4606]⟩
abbrev S256x2 : Shape := ⟨2, ![256, 2]⟩
abbrev S256x4605 : Shape := ⟨2, ![256, 4605]⟩
abbrev S256x3 : Shape := ⟨2, ![256, 3]⟩
abbrev S256x4604 : Shape := ⟨2, ![256, 4604]⟩
abbrev S256x4 : Shape := ⟨2, ![256, 4]⟩
abbrev S256x4603 : Shape := ⟨2, ![256, 4603]⟩
abbrev S256x5 : Shape := ⟨2, ![256, 5]⟩
abbrev S256x4602 : Shape := ⟨2, ![256, 4602]⟩
abbrev S256x6 : Shape := ⟨2, ![256, 6]⟩
abbrev S256x4601 : Shape := ⟨2, ![256, 4601]⟩
abbrev S256x7 : Shape := ⟨2, ![256, 7]⟩
abbrev S256x4600 : Shape := ⟨2, ![256, 4600]⟩
abbrev S256x8 : Shape := ⟨2, ![256, 8]⟩
abbrev S3x256x8x128 : Shape := ⟨4, ![3, 256, 8, 128]⟩
abbrev S768x1024 : Shape := ⟨2, ![768, 1024]⟩
abbrev S3x1024 : Shape := ⟨2, ![3, 1024]⟩
abbrev S1024 : Shape := ⟨1, ![1024]⟩
abbrev S1x1024 : Shape := ⟨2, ![1, 1024]⟩
abbrev S256x256 : Shape := ⟨2, ![256, 256]⟩
abbrev S256x1280 : Shape := ⟨2, ![256, 1280]⟩
abbrev S256x1279 : Shape := ⟨2, ![256, 1279]⟩
abbrev S1x1280 : Shape := ⟨2, ![1, 1280]⟩
abbrev S512x1280 : Shape := ⟨2, ![512, 1280]⟩
abbrev S512x1279 : Shape := ⟨2, ![512, 1279]⟩
abbrev S256x8x128 : Shape := ⟨3, ![256, 8, 128]⟩

abbrev nBuf : Space → Nat
  | .hbm => 28
  | .vmem => 18
  | .smem => 0
  | _ => 0

abbrev bufTy : (tb : Table) → Fin (tcTables nBuf tb) → BufTy
  | .hbm, ⟨0, _⟩ => ⟨S2x3x256x128x128, .f32⟩
  | .hbm, ⟨1, _⟩ => ⟨S3x768x1x1, .f32⟩
  | .hbm, ⟨2, _⟩ => ⟨S3, .f32⟩
  | .hbm, ⟨3, _⟩ => ⟨S512x256x3x3, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S256x512x3x3, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S3x768, .f32⟩
  | .hbm, ⟨14, _⟩ => ⟨S3x1, .f32⟩
  | .hbm, ⟨15, _⟩ => ⟨S512x2304, .f32⟩
  | .hbm, ⟨16, _⟩ => ⟨S256x4608, .f32⟩
  | .hbm, ⟨17, _⟩ => ⟨S512x1, .f32⟩
  | .hbm, ⟨18, _⟩ => ⟨S512, .f32⟩
  | .hbm, ⟨19, _⟩ => ⟨S512, .f32⟩
  | .hbm, ⟨20, _⟩ => ⟨S512x1, .f32⟩
  | .hbm, ⟨21, _⟩ => ⟨S256x1, .f32⟩
  | .hbm, ⟨22, _⟩ => ⟨S256, .f32⟩
  | .hbm, ⟨23, _⟩ => ⟨S256, .f32⟩
  | .hbm, ⟨24, _⟩ => ⟨S256x1, .f32⟩
  | .hbm, ⟨25, _⟩ => ⟨S256x1, .f32⟩
  | .hbm, ⟨26, _⟩ => ⟨S256x1, .f32⟩
  | .hbm, ⟨27, _⟩ => ⟨S2x256x128x128, .f32⟩
  | .local _ .vmem, ⟨0, _⟩ => ⟨S1x3x256x8x128, .f32⟩
  | .local _ .vmem, ⟨1, _⟩ => ⟨S1x3x256x8x128, .f32⟩
  | .local _ .vmem, ⟨2, _⟩ => ⟨S3x768, .f32⟩
  | .local _ .vmem, ⟨3, _⟩ => ⟨S3x1, .f32⟩
  | .local _ .vmem, ⟨4, _⟩ => ⟨S512x2304, .f32⟩
  | .local _ .vmem, ⟨5, _⟩ => ⟨S512x1, .f32⟩
  | .local _ .vmem, ⟨6, _⟩ => ⟨S512x1, .f32⟩
  | .local _ .vmem, ⟨7, _⟩ => ⟨S256x4608, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S1x256x8x128, .f32⟩
  | .local _ .vmem, ⟨13, _⟩ => ⟨S1x256x8x128, .f32⟩
  | .local _ .vmem, ⟨14, _⟩ => ⟨S256x1024, .f32⟩
  | .local _ .vmem, ⟨15, _⟩ => ⟨S512x1024, .bf16⟩
  | .local _ .vmem, ⟨16, _⟩ => ⟨S512x2304, .bf16⟩
  | .local _ .vmem, ⟨17, _⟩ => ⟨S256x4608, .bf16⟩
  | _, _ => ⟨S2x3x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![2, 17], ![false, false]⟩

def k0_cond3 (i : grid0.Coords) : BitVec 1 :=
  let arg1 : BitVec 32 := BitVec.ofNat 32 (i 1).val
  let c0_i32_68 : BitVec 32 := 0#32
  let v195 : BitVec 1 := Scalar.cmpi .sgt arg1 c0_i32_68
  let v196 : BitVec 32 := Scalar.extui v195
  let c0_i32_69 : BitVec 32 := 0#32
  let v197 : BitVec 1 := Scalar.cmpi .ne v196 c0_i32_69
  v197

def cc0_transform_0 (i : grid0.Coords) : Fin 5 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, v0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

abbrev stage0_0 : Fin 2 → Memref sig .tc .vmem S1x3x256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x4608 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "sqrt_half" => some (((Real.sqrt 2)⁻¹ : ℝ) : EReal)
  | _ => none
-- ==== ReferenceIdeal.lean ====
abbrev S2x3x256x128x128 : Shape := ⟨5, ![2, 3, 256, 128, 128]⟩
abbrev S3x768x1x1 : Shape := ⟨4, ![3, 768, 1, 1]⟩
abbrev S3 : Shape := ⟨1, ![3]⟩
abbrev S512x256x3x3 : Shape := ⟨4, ![512, 256, 3, 3]⟩
abbrev S512 : Shape := ⟨1, ![512]⟩
abbrev S256x512x3x3 : Shape := ⟨4, ![256, 512, 3, 3]⟩
abbrev S256 : Shape := ⟨1, ![256]⟩
abbrev S2x768x128x128 : Shape := ⟨4, ![2, 768, 128, 128]⟩
abbrev S3x768 : Shape := ⟨2, ![3, 768]⟩
abbrev S2x128x128x3 : Shape := ⟨4, ![2, 128, 128, 3]⟩
abbrev S2x3x128x128 : Shape := ⟨4, ![2, 3, 128, 128]⟩
abbrev S1x3x1x1 : Shape := ⟨4, ![1, 3, 1, 1]⟩
abbrev S_ : Shape := ⟨0, ![]⟩
abbrev S2x128x128 : Shape := ⟨3, ![2, 128, 128]⟩
abbrev S2x1x128x128 : Shape := ⟨4, ![2, 1, 128, 128]⟩
abbrev S2x3x1x128x128 : Shape := ⟨5, ![2, 3, 1, 128, 128]⟩
abbrev S2x256x128x128 : Shape := ⟨4, ![2, 256, 128, 128]⟩
abbrev S2x256x130x130 : Shape := ⟨4, ![2, 256, 130, 130]⟩
abbrev S512x256x1x1 : Shape := ⟨4, ![512, 256, 1, 1]⟩
abbrev S512x256 : Shape := ⟨2, ![512, 256]⟩
abbrev S2x128x128x512 : Shape := ⟨4, ![2, 128, 128, 512]⟩
abbrev S2x512x128x128 : Shape := ⟨4, ![2, 512, 128, 128]⟩
abbrev S1x512x1x1 : Shape := ⟨4, ![1, 512, 1, 1]⟩
abbrev S2x512x130x130 : Shape := ⟨4, ![2, 512, 130, 130]⟩
abbrev S256x512x1x1 : Shape := ⟨4, ![256, 512, 1, 1]⟩
abbrev S256x512 : Shape := ⟨2, ![256, 512]⟩
abbrev S2x128x128x256 : Shape := ⟨4, ![2, 128, 128, 256]⟩
abbrev S1x256x1x1 : Shape := ⟨4, ![1, 256, 1, 1]⟩
abbrev S2x128x128x1 : Shape := ⟨4, ![2, 128, 128, 1]⟩
abbrev S1x1x1x256 : Shape := ⟨4, ![1, 1, 1, 256]⟩

abbrev nBuf : Space → Nat
  | .hbm => 213
  | .vmem => 0
  | .smem => 0
  | _ => 0

abbrev hbmTy0_0 (i : Nat) : BufTy := match i % 128 with
  | 0 => ⟨S2x3x256x128x128, .f32⟩
  | 1 => ⟨S3x768x1x1, .f32⟩
  | 2 => ⟨S3, .f32⟩
  | 3 => ⟨S512x256x3x3, .f32⟩
  | 4 => ⟨S512, .f32⟩
  | 5 => ⟨S512, .f32⟩
  | 6 => ⟨S512, .f32⟩
  | 7 => ⟨S256x512x3x3, .f32⟩
  | 8 => ⟨S256, .f32⟩
  | 9 => ⟨S256, .f32⟩
  | 10 => ⟨S256, .f32⟩
  | 11 => ⟨S256, .f32⟩
  | 12 => ⟨S256, .f32⟩
  | 13 => ⟨S2x768x128x128, .f32⟩
  | 14 => ⟨S3x768, .f32⟩
  | 15 => ⟨S2x128x128x3, .f32⟩
  | 16 => ⟨S2x3x128x128, .f32⟩
  | 17 => ⟨S1x3x1x1, .f32⟩
  | 18 => ⟨S2x3x128x128, .f32⟩
  | 19 => ⟨S2x3x128x128, .f32⟩
  | 20 => ⟨S_, .f32⟩
  | 21 => ⟨S2x128x128, .f32⟩
  | 22 => ⟨S_, .f32⟩
  | 23 => ⟨S2x128x128, .f32⟩
  | 24 => ⟨S2x128x128, .f32⟩
  | 25 => ⟨S2x1x128x128, .f32⟩
  | 26 => ⟨S2x3x128x128, .f32⟩
  | 27 => ⟨S2x3x128x128, .f32⟩
  | 28 => ⟨S2x3x128x128, .f32⟩
  | 29 => ⟨S_, .f32⟩
  | 30 => ⟨S2x128x128, .f32⟩
  | 31 => ⟨S2x1x128x128, .f32⟩
  | 32 => ⟨S2x3x128x128, .f32⟩
  | 33 => ⟨S2x3x128x128, .f32⟩
  | 34 => ⟨S2x3x1x128x128, .f32⟩
  | 35 => ⟨S2x3x256x128x128, .f32⟩
  | 36 => ⟨S2x3x256x128x128, .f32⟩
  | 37 => ⟨S_, .f32⟩
  | 38 => ⟨S2x256x128x128, .f32⟩
  | 39 => ⟨S_, .i32⟩
  | 40 => ⟨S_, .f32⟩
  | 41 => ⟨S2x256x130x130, .f32⟩
  | 42 => ⟨S512x256x1x1, .f32⟩
  | 43 => ⟨S512x256, .f32⟩
  | 44 => ⟨S2x256x128x128, .f32⟩
  | 45 => ⟨S2x128x128x512, .f32⟩
  | 46 => ⟨S2x512x128x128, .f32⟩
  | 47 => ⟨S512x256x1x1, .f32⟩
  | 48 => ⟨S512x256, .f32⟩
  | 49 => ⟨S2x256x128x128, .f32⟩
  | 50 => ⟨S2x128x128x512, .f32⟩
  | 51 => ⟨S2x512x128x128, .f32⟩
  | 52 => ⟨S2x512x128x128, .f32⟩
  | 53 => ⟨S512x256x1x1, .f32⟩
  | 54 => ⟨S512x256, .f32⟩
  | 55 => ⟨S2x256x128x128, .f32⟩
  | 56 => ⟨S2x128x128x512, .f32⟩
  | 57 => ⟨S2x512x128x128, .f32⟩
  | 58 => ⟨S2x512x128x128, .f32⟩
  | 59 => ⟨S512x256x1x1, .f32⟩
  | 60 => ⟨S512x256, .f32⟩
  | 61 => ⟨S2x256x128x128, .f32⟩
  | 62 => ⟨S2x128x128x512, .f32⟩
  | 63 => ⟨S2x512x128x128, .f32⟩
  | 64 => ⟨S2x512x128x128, .f32⟩
  | 65 => ⟨S512x256x1x1, .f32⟩
  | 66 => ⟨S512x256, .f32⟩
  | 67 => ⟨S2x256x128x128, .f32⟩
  | 68 => ⟨S2x128x128x512, .f32⟩
  | 69 => ⟨S2x512x128x128, .f32⟩
  | 70 => ⟨S2x512x128x128, .f32⟩
  | 71 => ⟨S512x256x1x1, .f32⟩
  | 72 => ⟨S512x256, .f32⟩
  | 73 => ⟨S2x256x128x128, .f32⟩
  | 74 => ⟨S2x128x128x512, .f32⟩
  | 75 => ⟨S2x512x128x128, .f32⟩
  | 76 => ⟨S2x512x128x128, .f32⟩
  | 77 => ⟨S512x256x1x1, .f32⟩
  | 78 => ⟨S512x256, .f32⟩
  | 79 => ⟨S2x256x128x128, .f32⟩
  | 80 => ⟨S2x128x128x512, .f32⟩
  | 81 => ⟨S2x512x128x128, .f32⟩
  | 82 => ⟨S2x512x128x128, .f32⟩
  | 83 => ⟨S512x256x1x1, .f32⟩
  | 84 => ⟨S512x256, .f32⟩
  | 85 => ⟨S2x256x128x128, .f32⟩
  | 86 => ⟨S2x128x128x512, .f32⟩
  | 87 => ⟨S2x512x128x128, .f32⟩
  | 88 => ⟨S2x512x128x128, .f32⟩
  | 89 => ⟨S512x256x1x1, .f32⟩
  | 90 => ⟨S512x256, .f32⟩
  | 91 => ⟨S2x256x128x128, .f32⟩
  | 92 => ⟨S2x128x128x512, .f32⟩
  | 93 => ⟨S2x512x128x128, .f32⟩
  | 94 => ⟨S2x512x128x128, .f32⟩
  | 95 => ⟨S1x512x1x1, .f32⟩
  | 96 => ⟨S2x512x128x128, .f32⟩
  | 97 => ⟨S2x512x128x128, .f32⟩
  | 98 => ⟨S1x512x1x1, .f32⟩
  | 99 => ⟨S2x512x128x128, .f32⟩
  | 100 => ⟨S2x512x128x128, .f32⟩
  | 101 => ⟨S1x512x1x1, .f32⟩
  | 102 => ⟨S2x512x128x128, .f32⟩
  | 103 => ⟨S2x512x128x128, .f32⟩
  | 104 => ⟨S_, .f32⟩
  | 105 => ⟨S2x512x128x128, .f32⟩
  | 106 => ⟨S2x512x128x128, .f32⟩
  | 107 => ⟨S_, .f32⟩
  | 108 => ⟨S_, .f32⟩
  | 109 => ⟨S2x512x128x128, .f32⟩
  | 110 => ⟨S2x512x128x128, .f32⟩
  | 111 => ⟨S2x512x128x128, .f32⟩
  | 112 => ⟨S_, .f32⟩
  | 113 => ⟨S2x512x128x128, .f32⟩
  | 114 => ⟨S2x512x128x128, .f32⟩
  | 115 => ⟨S2x512x128x128, .f32⟩
  | 116 => ⟨S_, .i32⟩
  | 117 => ⟨S_, .f32⟩
  | 118 => ⟨S2x512x130x130, .f32⟩
  | 119 => ⟨S256x512x1x1, .f32⟩
  | 120 => ⟨S256x512, .f32⟩
  | 121 => ⟨S2x512x128x128, .f32⟩
  | 122 => ⟨S2x128x128x256, .f32⟩
  | 123 => ⟨S2x256x128x128, .f32⟩
  | 124 => ⟨S256x512x1x1, .f32⟩
  | 125 => ⟨S256x512, .f32⟩
  | 126 => ⟨S2x512x128x128, .f32⟩
  | 127 => ⟨S2x128x128x256, .f32⟩
  | _ => ⟨S2x3x256x128x128, .f32⟩

abbrev hbmTy0_1 (i : Nat) : BufTy := match i % 128 with
  | 0 => ⟨S2x256x128x128, .f32⟩
  | 1 => ⟨S2x256x128x128, .f32⟩
  | 2 => ⟨S256x512x1x1, .f32⟩
  | 3 => ⟨S256x512, .f32⟩
  | 4 => ⟨S2x512x128x128, .f32⟩
  | 5 => ⟨S2x128x128x256, .f32⟩
  | 6 => ⟨S2x256x128x128, .f32⟩
  | 7 => ⟨S2x256x128x128, .f32⟩
  | 8 => ⟨S256x512x1x1, .f32⟩
  | 9 => ⟨S256x512, .f32⟩
  | 10 => ⟨S2x512x128x128, .f32⟩
  | 11 => ⟨S2x128x128x256, .f32⟩
  | 12 => ⟨S2x256x128x128, .f32⟩
  | 13 => ⟨S2x256x128x128, .f32⟩
  | 14 => ⟨S256x512x1x1, .f32⟩
  | 15 => ⟨S256x512, .f32⟩
  | 16 => ⟨S2x512x128x128, .f32⟩
  | 17 => ⟨S2x128x128x256, .f32⟩
  | 18 => ⟨S2x256x128x128, .f32⟩
  | 19 => ⟨S2x256x128x128, .f32⟩
  | 20 => ⟨S256x512x1x1, .f32⟩
  | 21 => ⟨S256x512, .f32⟩
  | 22 => ⟨S2x512x128x128, .f32⟩
  | 23 => ⟨S2x128x128x256, .f32⟩
  | 24 => ⟨S2x256x128x128, .f32⟩
  | 25 => ⟨S2x256x128x128, .f32⟩
  | 26 => ⟨S256x512x1x1, .f32⟩
  | 27 => ⟨S256x512, .f32⟩
  | 28 => ⟨S2x512x128x128, .f32⟩
  | 29 => ⟨S2x128x128x256, .f32⟩
  | 30 => ⟨S2x256x128x128, .f32⟩
  | 31 => ⟨S2x256x128x128, .f32⟩
  | 32 => ⟨S256x512x1x1, .f32⟩
  | 33 => ⟨S256x512, .f32⟩
  | 34 => ⟨S2x512x128x128, .f32⟩
  | 35 => ⟨S2x128x128x256, .f32⟩
  | 36 => ⟨S2x256x128x128, .f32⟩
  | 37 => ⟨S2x256x128x128, .f32⟩
  | 38 => ⟨S256x512x1x1, .f32⟩
  | 39 => ⟨S256x512, .f32⟩
  | 40 => ⟨S2x512x128x128, .f32⟩
  | 41 => ⟨S2x128x128x256, .f32⟩
  | 42 => ⟨S2x256x128x128, .f32⟩
  | 43 => ⟨S2x256x128x128, .f32⟩
  | 44 => ⟨S1x256x1x1, .f32⟩
  | 45 => ⟨S2x256x128x128, .f32⟩
  | 46 => ⟨S2x256x128x128, .f32⟩
  | 47 => ⟨S1x256x1x1, .f32⟩
  | 48 => ⟨S2x256x128x128, .f32⟩
  | 49 => ⟨S2x256x128x128, .f32⟩
  | 50 => ⟨S1x256x1x1, .f32⟩
  | 51 => ⟨S2x256x128x128, .f32⟩
  | 52 => ⟨S2x256x128x128, .f32⟩
  | 53 => ⟨S2x256x128x128, .f32⟩
  | 54 => ⟨S2x128x128x256, .f32⟩
  | 55 => ⟨S_, .f32⟩
  | 56 => ⟨S2x128x128, .f32⟩
  | 57 => ⟨S2x128x128x1, .f32⟩
  | 58 => ⟨S_, .f32⟩
  | 59 => ⟨S2x128x128x1, .f32⟩
  | 60 => ⟨S2x128x128x1, .f32⟩
  | 61 => ⟨S2x128x128x256, .f32⟩
  | 62 => ⟨S2x128x128x256, .f32⟩
  | 63 => ⟨S2x128x128x256, .f32⟩
  | 64 => ⟨S_, .f32⟩
  | 65 => ⟨S2x128x128, .f32⟩
  | 66 => ⟨S2x128x128x1, .f32⟩
  | 67 => ⟨S_, .f32⟩
  | 68 => ⟨S2x128x128x1, .f32⟩
  | 69 => ⟨S2x128x128x1, .f32⟩
  | 70 => ⟨S2x128x128x256, .f32⟩
  | 71 => ⟨S2x128x128x256, .f32⟩
  | 72 => ⟨S_, .f32⟩
  | 73 => ⟨S2x128x128x1, .f32⟩
  | 74 => ⟨S2x128x128x1, .f32⟩
  | 75 => ⟨S2x128x128x1, .f32⟩
  | 76 => ⟨S2x128x128x256, .f32⟩
  | 77 => ⟨S2x128x128x256, .f32⟩
  | 78 => ⟨S1x1x1x256, .f32⟩
  | 79 => ⟨S2x128x128x256, .f32⟩
  | 80 => ⟨S2x128x128x256, .f32⟩
  | 81 => ⟨S1x1x1x256, .f32⟩
  | 82 => ⟨S2x128x128x256, .f32⟩
  | 83 => ⟨S2x128x128x256, .f32⟩
  | 84 => ⟨S2x256x128x128, .f32⟩
  | _ => ⟨S2x3x256x128x128, .f32⟩

abbrev hbmTy (i : Nat) : BufTy := match i / 128 with
  | 0 => hbmTy0_0 i
  | 1 => hbmTy0_1 i
  | _ => ⟨S2x3x256x128x128, .f32⟩

abbrev bufTy : (tb : Table) → Fin (tcTables nBuf tb) → BufTy
  | .hbm, ⟨i, _⟩ => hbmTy i
  | _, _ => ⟨S2x3x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_c : Ref sig .tc := ⟨.hbm, 39, rfl⟩
abbrev main_call0_v0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_3 : Ref sig .tc := ⟨.hbm, 104, rfl⟩
abbrev main_v85 : Ref sig .tc := ⟨.hbm, 105, rfl⟩
abbrev main_v86 : Ref sig .tc := ⟨.hbm, 106, rfl⟩
abbrev main_cst_4 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_cst_5 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_c_6 : Ref sig .tc := ⟨.hbm, 116, rfl⟩
abbrev main_call1_v0 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_cst_7 : Ref sig .tc := ⟨.hbm, 183, rfl⟩
abbrev main_v159 : Ref sig .tc := ⟨.hbm, 184, rfl⟩
abbrev main_v160 : Ref sig .tc := ⟨.hbm, 185, rfl⟩
abbrev main_cst_8 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_cst_9 : Ref sig .tc := ⟨.hbm, 192, rfl⟩
abbrev main_v166 : Ref sig .tc := ⟨.hbm, 193, rfl⟩
abbrev main_v167 : Ref sig .tc := ⟨.hbm, 194, rfl⟩
abbrev main_cst_10 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_cst_11 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩

abbrev nD : Nat := 1
abbrev τ : Topo := Topo.v7x

variable {F : FTy → Type} [FloatOps F]
-- ==== Proof.Spec.lean ====
/-
The function both programs compute, written over plain index functions with values in the extended reals:
a softmax-weighted sum of three feature maps, two 3x3 convolutions with zero padding (the first followed by
an affine map and the exact GELU, the second by an affine map and the residual), and a normalisation over
the channels of each pixel.

An image is read at integer coordinates and is zero off the square (`zpad`), so that a row block that hangs
over the upper or lower edge needs no case of its own.
-/
module

public import Idealize.ShloMosaic.PureOps.Ideal.Laws
public import Idealize.ShloMosaic.Lib.ValueIdx

@[expose] public section

noncomputable section

namespace Cert.Spec

open Idealize.ShloMosaic

/-- An image of `C` channels on the 128 by 128 square. -/
abbrev Img (C : ℕ) := Fin C → Fin 128 → Fin 128 → EReal

/-- The taps of a 3x3 convolution from `C` channels to `O`. -/
abbrev Taps (O C : ℕ) := Fin O → Fin C → Fin 3 → Fin 3 → EReal

/-- The image at an integer row and column, zero off the square. -/
def zpad {C : ℕ} (u : Img C) (c : Fin C) (R L : ℤ) : EReal :=
  if h : (0 ≤ R ∧ R < 128) ∧ (0 ≤ L ∧ L < 128) then
    u c ⟨R.toNat, by omega⟩ ⟨L.toNat, by omega⟩
  else 0

/-- On the square `zpad` is the image. -/
theorem zpad_in {C : ℕ} (u : Img C) (c : Fin C) (R L : ℤ) (r l : Fin 128) (hr : R = (r : ℕ)) (hl : L = (l : ℕ)) :
    zpad u c R L = u c r l := by
  subst hr hl
  have h1 := r.isLt
  have h2 := l.isLt
  unfold zpad
  rw [dif_pos (by omega)]
  congr 1

/-- Off the rows of the square `zpad` is zero. -/
theorem zpad_row {C : ℕ} (u : Img C) (c : Fin C) (R L : ℤ) (h : R < 0 ∨ 128 ≤ R) : zpad u c R L = 0 := by
  unfold zpad
  rw [dif_neg (by omega)]

/-- Off the columns of the square `zpad` is zero. -/
theorem zpad_col {C : ℕ} (u : Img C) (c : Fin C) (R L : ℤ) (h : L < 0 ∨ 128 ≤ L) : zpad u c R L = 0 := by
  unfold zpad
  rw [dif_neg (by omega)]

/-- One tap of the convolution: the weights of the offset `(dy, dx)` against the image moved by it. -/
def tap {O C : ℕ} (w : Taps O C) (u : Img C) (dy dx : Fin 3) (o : Fin O) (R L : ℤ) : EReal :=
  ∑ c : Fin C, w o c dy dx * zpad u c (R + (dy : ℕ) - 1) (L + (dx : ℕ) - 1)

/-- The 3x3 convolution with zero padding: its nine taps added in the order of their offsets. -/
def conv {O C : ℕ} (w : Taps O C) (u : Img C) (o : Fin O) (R L : ℤ) : EReal :=
  tap w u 0 0 o R L + tap w u 0 1 o R L + tap w u 0 2 o R L
    + tap w u 1 0 o R L + tap w u 1 1 o R L + tap w u 1 2 o R L
    + tap w u 2 0 o R L + tap w u 2 1 o R L + tap w u 2 2 o R L

/-- The exact GELU, with the square root of one half given by `s`: `(x / 2) (1 + erf (s x))`. -/
def gelu (s y : EReal) : EReal :=
  Ideal.ofBits .f32 0x3F000000#32 * y * (1 + Ideal.erf (y * s))

/-- The scores of one pixel: a 1x1 convolution of the 768 stacked channels and its bias. -/
def score (x : Fin 3 → Img 256) (wp : Fin 3 → Fin 768 → EReal) (bp : Fin 3 → EReal) (r l : Fin 128) (k : Fin 3) : EReal :=
  (∑ q : Fin 768, wp k q * x ⟨q / 256, by omega⟩ ⟨q % 256, by omega⟩ r l) + bp k

/-- The softmax of three scores. -/
def soft (z : Fin 3 → EReal) (k : Fin 3) : EReal :=
  Ideal.div (Ideal.exp (z k - Finset.univ.fold max ⊥ z)) (∑ j : Fin 3, Ideal.exp (z j - Finset.univ.fold max ⊥ z))

/-- The three feature maps added with the softmax of their scores as weights. -/
def fused (x : Fin 3 → Img 256) (wp : Fin 3 → Fin 768 → EReal) (bp : Fin 3 → EReal) : Img 256 := fun c r l =>
  soft (score x wp bp r l) 0 * x 0 c r l + soft (score x wp bp r l) 1 * x 1 c r l + soft (score x wp bp r l) 2 * x 2 c r l

/-- The hidden layer: convolution, bias, affine map, GELU. -/
def hidden (s : EReal) (w : Taps 512 256) (b g t : Fin 512 → EReal) (u : Img 256) : Img 512 := fun f r l =>
  gelu s ((conv w u f (r : ℕ) (l : ℕ) + b f) * g f + t f)

/-- The layer before the normalisation: convolution, bias, affine map, residual. -/
def outer (w : Taps 256 512) (b g t : Fin 256 → EReal) (u : Img 256) (h : Img 512) : Img 256 := fun o r l =>
  (conv w h o (r : ℕ) (l : ℕ) + b o) * g o + t o + u o r l

/-- The mean of the 256 channels. -/
def mean (z : Fin 256 → EReal) : EReal := Ideal.div (∑ k : Fin 256, z k) (Ideal.ofBits .f32 0x43800000#32)

/-- The normalisation of the 256 channels of one pixel. -/
def norm (z lg lb : Fin 256 → EReal) (o : Fin 256) : EReal :=
  Ideal.div (z o - mean z)
      (Ideal.sqrt (mean (fun k => (z k - mean z) * (z k - mean z)) + Ideal.ofBits .f32 0x3727C5AC#32)) * lg o + lb o

/-- The whole block. -/
def block (s : EReal) (x : Fin 3 → Img 256) (wp : Fin 3 → Fin 768 → EReal) (bp : Fin 3 → EReal)
    (w1 : Taps 512 256) (b1 g1 t1 : Fin 512 → EReal) (w2 : Taps 256 512) (b2 g2 t2 lg lb : Fin 256 → EReal) : Img 256 :=
  fun o r l =>
    norm (fun k => outer w2 b2 g2 t2 (fused x wp bp) (hidden s w1 b1 g1 t1 (fused x wp bp)) k r l) lg lb o

end Cert.Spec

end
-- ==== Proof.Arrays.lean ====
/-
The arguments' arrays read as the index functions the specification is written over, and the result
array the specification asks for.
-/
module

public import proofs.«01_k».proof.Proof.Spec
public import Idealize.ShloMosaic.Lib.Pointwise

@[expose] public section

noncomputable section

namespace Cert.Spec

open Idealize.ShloMosaic

/-- The three feature maps of picture `b`. -/
def imgOf (x : FVec Ideal ⟨5, ![2, 3, 256, 128, 128]⟩ .f32) (b : Fin 2) : Fin 3 → Img 256 := fun k c r l => x (ix5 b k c r l)

/-- The weights of the 1x1 convolution. -/
def projOf (w : FVec Ideal ⟨4, ![3, 768, 1, 1]⟩ .f32) : Fin 3 → Fin 768 → EReal := fun k q => w (ix4 k q 0 0)

/-- The taps of a 3x3 convolution. -/
def tapsOf {O C : ℕ} (w : FVec Ideal ⟨4, ![O, C, 3, 3]⟩ .f32) : Taps O C := fun o c dy dx => w (ix4 o c dy dx)

/-- A vector. -/
def vecOf {n : ℕ} (v : FVec Ideal ⟨1, ![n]⟩ .f32) : Fin n → EReal := fun k => v (ix1 k)

/-- The square root of one half, as both programs use it. -/
def halfRoot : EReal := (((Real.sqrt 2)⁻¹ : ℝ) : EReal)

/-- The result at picture `b`, channel `o`, row `r`, column `l`. -/
def result (x : FVec Ideal ⟨5, ![2, 3, 256, 128, 128]⟩ .f32) (wp : FVec Ideal ⟨4, ![3, 768, 1, 1]⟩ .f32) (bp : FVec Ideal ⟨1, ![3]⟩ .f32)
    (w1 : FVec Ideal ⟨4, ![512, 256, 3, 3]⟩ .f32) (b1 g1 t1 : FVec Ideal ⟨1, ![512]⟩ .f32)
    (w2 : FVec Ideal ⟨4, ![256, 512, 3, 3]⟩ .f32) (b2 g2 t2 lg lb : FVec Ideal ⟨1, ![256]⟩ .f32)
    (b : Fin 2) (o : Fin 256) (r l : Fin 128) : EReal :=
  block halfRoot (imgOf x b) (projOf wp) (vecOf bp) (tapsOf w1) (vecOf b1) (vecOf g1) (vecOf t1)
    (tapsOf w2) (vecOf b2) (vecOf g2) (vecOf t2) (vecOf lg) (vecOf lb) o r l

end Cert.Spec

end
-- ==== Proof.Terms.lean ====
/-
What one grid step leaves behind, as a function of the step's input blocks and of the state the
step before it left: the fused image rows, the row of hidden activations, the rows of the result.
The three kinds of step (the very first of the sweep, the first of a later picture, every
other one) differ only in where the carried state comes from, so each is read into the same terms.
-/
module
public import proofs.«01_k».proof.Proof.Gen.KernelIdeal.Frame
public import Idealize.ShloMosaic.Lib.Pipeline.ValueKit
public import Idealize.ShloMosaic.Lib.Pipeline.ReadBack
@[expose] public section
set_option maxRecDepth 16384
noncomputable section
namespace Cert.KernelIdeal.Terms
open Idealize.ShloMosaic Idealize.ShloMosaic.TcCoe Idealize.SL.Sem
open Cert.KernelIdeal Cert.KernelIdeal.Gen

/-- The fused picture rows of step `i`, as rows of lanes, zero past the last picture row. -/
def fusedV (i : BitVec 32) (x : FVec Ideal S1x3x256x8x128 .f32) (wp : FVec Ideal S3x768 .f32) (bp : FVec Ideal S3x1 .f32) :
    FVec Ideal S256x1024 .f32 :=
  k0_pay43 i (k0_pay39 x) (k0_pay41 x wp bp) (k0_pay42 x wp bp)

/-- The fused rows with the two rows before them. -/
def haloV (i : BitVec 32) (x : FVec Ideal S1x3x256x8x128 .f32) (wp : FVec Ideal S3x768 .f32) (bp : FVec Ideal S3x1 .f32)
    (top : FVec Ideal S256x256 .f32) : FVec Ideal S256x1280 .bf16 :=
  k0_pay44 i (k0_pay39 x) (k0_pay41 x wp bp) (k0_pay42 x wp bp) top

/-- Those rows moved one column: each lane holds its left neighbour, the first column zero. -/
def leftV (i : BitVec 32) (x : FVec Ideal S1x3x256x8x128 .f32) (wp : FVec Ideal S3x768 .f32) (bp : FVec Ideal S3x1 .f32)
    (top : FVec Ideal S256x256 .f32) : FVec Ideal S256x1280 .bf16 :=
  k0_pay45 i (k0_pay39 x) (k0_pay41 x wp bp) (k0_pay42 x wp bp) top

/-- Those rows moved one column the other way, the wrapped lanes not yet cleared. -/
def rollV (i : BitVec 32) (x : FVec Ideal S1x3x256x8x128 .f32) (wp : FVec Ideal S3x768 .f32) (bp : FVec Ideal S3x1 .f32)
    (top : FVec Ideal S256x256 .f32) : FVec Ideal S256x1280 .bf16 :=
  k0_pay46 i (k0_pay39 x) (k0_pay41 x wp bp) (k0_pay42 x wp bp) top

/-- The first convolution, its affine map and the activation, over rows with their two halo rows. -/
def hiddenV (halo left roll : FVec Ideal S256x1280 .bf16) (w : Fin 9 → FVec Ideal S512x256 .bf16)
    (g b : FVec Ideal S512x1 .f32) : FVec Ideal S512x1024 .f32 :=
  k0_pay50 halo left (k0_pay48 roll 128#32 k0_pay47)
    (k0_pay49 halo left roll 128#32 k0_pay47 (w 0) (w 1) (w 2) (w 3) (w 4)) (w 5) (w 6) (w 7) (w 8) g b

/-- The hidden rows of step `i`, zero off the picture. -/
def maskedV (i : BitVec 32) (h : FVec Ideal S512x1024 .f32) : FVec Ideal S512x1024 .bf16 :=
  k0_pay53 i h (iota .tc S1x1024 32 [1] iota_S1x1024_d1_w32) 128#32 k0_pay51 k0_pay52 0#32

/-- The second convolution's six first taps over the hidden rows `o` and the rows before them `o'`. -/
def convV (o o' : FVec Ideal S512x1024 .bf16) (w : Fin 9 → FVec Ideal S256x512 .bf16) : FVec Ideal S256x1024 .f32 :=
  k0_pay34 (k0_pay26 o o') (k0_pay27 o o') (k0_pay28 o o') (Scalar.select (Scalar.cmpi .eq 128#32 0#32) 1#32 128#32)
    k0_pay29 k0_pay30 k0_pay31 k0_pay32 (w 0) (w 1) (w 2) (w 3) (w 4) (w 5)

/-- The result rows of a step, from the hidden rows, the second layer's weights and the residual. -/
def outV (o o' : FVec Ideal S512x1024 .bf16) (w : Fin 9 → FVec Ideal S256x512 .bf16) (g b : FVec Ideal S256x1 .f32)
    (r : FVec Ideal S256x1024 .f32) (lg lb : FVec Ideal S256x1 .f32) : FVec Ideal S1x256x8x128 .f32 :=
  k0_pay54
    (k0_pay35 (k0_pay26 o o') (k0_pay27 o o')
      (k0_pay33 (k0_pay28 o o') (Scalar.select (Scalar.cmpi .eq 128#32 0#32) 1#32 128#32) k0_pay29 k0_pay30 k0_pay31 k0_pay32)
      (convV o o' w) (w 6) (w 7) (w 8) g b r)
    (k0_pay36 lg) lb

/-- The columns of one tap lie in the first layer's packed weights. -/
theorem tapA_inb (k : Fin 9) (a : Fin 2) : (![0, 256 * k.val] : Fin 2 → ℕ) a + (![512, 256] : Fin 2 → ℕ) a ≤ S512x2304.size a := by
  revert a; revert k; decide

/-- The columns of one tap lie in the second layer's packed weights. -/
theorem tapB_inb (k : Fin 9) (a : Fin 2) : (![0, 512 * k.val] : Fin 2 → ℕ) a + (![256, 512] : Fin 2 → ℕ) a ≤ S256x4608.size a := by
  revert a; revert k; decide

/-- The last two rows lie in a block of eight. -/
theorem lastRows_inb (a : Fin 2) : (![0, 768] : Fin 2 → ℕ) a + (![256, 256] : Fin 2 → ℕ) a ≤ S256x1024.size a := by
  revert a; decide

/-- Tap `k` of the first layer's packed weights. -/
def tapA (W : FVec Ideal S512x2304 .bf16) (k : Fin 9) : FVec Ideal S512x256 .bf16 :=
  View.ld (Val := Elt Ideal) (e' := EltTy.bf16) W (Rect.unit (s := S512x2304) ![0, 256 * k.val] ![512, 256] (tapA_inb k))

/-- Tap `k` of the second layer's packed weights. -/
def tapB (W : FVec Ideal S256x4608 .bf16) (k : Fin 9) : FVec Ideal S256x512 .bf16 :=
  View.ld (Val := Elt Ideal) (e' := EltTy.bf16) W (Rect.unit (s := S256x4608) ![0, 512 * k.val] ![256, 512] (tapB_inb k))

/-- The last two rows of a block of rows. -/
def lastRows (f : FVec Ideal S256x1024 .f32) : FVec Ideal S256x256 .f32 :=
  View.ld (Val := Elt Ideal) (e' := EltTy.f32) f (Rect.unit (s := S256x1024) ![0, 768] ![256, 256] lastRows_inb)

/-- A tap of the first layer, entry by entry. -/
theorem tapA_at (W : FVec Ideal S512x2304 .bf16) (k : Fin 9) (o : Fin 512) (c : Fin 256) :
    tapA W k (ix2 o c) = W (ix2 o ⟨256 * k.val + c.val, by omega⟩) := by
  unfold tapA; pointwise

/-- A tap of the second layer, entry by entry. -/
theorem tapB_at (W : FVec Ideal S256x4608 .bf16) (k : Fin 9) (o : Fin 256) (c : Fin 512) :
    tapB W k (ix2 o c) = W (ix2 o ⟨512 * k.val + c.val, by omega⟩) := by
  unfold tapB; pointwise

/-- The last two rows, entry by entry. -/
theorem lastRows_at (f : FVec Ideal S256x1024 .f32) (o : Fin 256) (c : Fin 256) :
    lastRows f (ix2 o c) = f (ix2 o ⟨768 + c.val, by omega⟩) := by
  unfold lastRows; pointwise

variable (m : (ℓ : Loc nD τ sig) → Buf (Elt Ideal) ℓ)

/-- The step's number within its picture, as the kernel's word. -/
abbrev stepW (t : Fin cfg0.N) : BitVec 32 := BitVec.ofNat 32 (grid0.coords t 1).val

/-- The fused rows of step `t`. -/
def fusedT (c : Dev nD) (t : Fin cfg0.N) : FVec Ideal S256x1024 .f32 :=
  fusedV (stepW t) (iblk m c 0 t) (iblk m c 1 t) (iblk m c 2 t)

/-- The hidden rows of step `t`, from the two fused rows above its own and the packed weights. -/
def hiddenT (c : Dev nD) (t : Fin cfg0.N) (top : FVec Ideal S256x256 .f32) (W : FVec Ideal S512x2304 .bf16) :
    FVec Ideal S512x1024 .bf16 :=
  maskedV (stepW t) (hiddenV (haloV (stepW t) (iblk m c 0 t) (iblk m c 1 t) (iblk m c 2 t) top)
    (leftV (stepW t) (iblk m c 0 t) (iblk m c 1 t) (iblk m c 2 t) top)
    (rollV (stepW t) (iblk m c 0 t) (iblk m c 1 t) (iblk m c 2 t) top) (tapA W) (iblk m c 4 t) (iblk m c 5 t))

/-- The rows of the result of step `t`, from the state it starts in. -/
def outT (c : Dev nD) (t : Fin cfg0.N) (f : FVec Ideal S256x1024 .f32) (o' : FVec Ideal S512x1024 .bf16)
    (W : FVec Ideal S512x2304 .bf16) (W' : FVec Ideal S256x4608 .bf16) : FVec Ideal S1x256x8x128 .f32 :=
  outV (hiddenT m c t (lastRows f) W) o' (tapB W') (iblk m c 7 t) (iblk m c 8 t) f (iblk m c 9 t) (iblk m c 10 t)

/-- The hidden rows carried in the scratch buffer, read back whole. -/
def reread (o : FVec Ideal S512x1024 .bf16) : FVec Ideal S512x1024 .bf16 :=
  View.ld (Val := Elt Ideal) (e' := EltTy.bf16) (View.read (Elt Ideal) (View.whole cc0_scratch1)
    ((Memref.isWhole_whole cc0_scratch1).unread o)) (Rect.unit ![0, 0] ![512, 1024] inb_S512x1024_S512x1024_0_0)

/-- Reading the carried hidden rows back gives them unchanged. -/
theorem reread_eq (o : FVec Ideal S512x1024 .bf16) : reread o = o := by
  unfold reread
  rw [read_unread_whole]; funext j; pointwise

/-- A step inside a picture leaves its fused rows. -/
theorem B_fused (c : Dev nD) (t : Fin cfg0.N) (h0 : ¬t.val % 34 = 0) (h1 : ¬t.val % 17 = 0) (h2 : 1 ≤ t.val % 17) :
    (outsAt0 m c t.val t.isLt).2.1 = k0_pay55 (fusedT m c t) := by
  rw [outsAt0_B m c t h0 h1 h2]; frame_out; rfl

/-- A step inside a picture leaves its hidden rows, with the halo carried from the step before. -/
theorem B_hidden (c : Dev nD) (t : Fin cfg0.N) (h0 : ¬t.val % 34 = 0) (h1 : ¬t.val % 17 = 0) (h2 : 1 ≤ t.val % 17) :
    (outsAt0 m c t.val t.isLt).2.2.1 =
      shapeCast S512x1024 (hiddenT m c t (lastRows (outsAt0 m c (t.val - 1) (by omega)).2.1)
        (outsAt0 m c (t.val - 1) (by omega)).2.2.2.1) shapeCasts_S512x1024_S512x1024 := by
  rw [outsAt0_B m c t h0 h1 h2]; frame_open
  simp (config := {maxSteps := 10000000}) (disch := decide) only [View.read_writes_junk_eq_canon, View.canon_cons_unit_lit',
    View.readAt_eq_ld, View.ld_unit_lit', View.readCov_unit_lit', View.readCov_cons_unit_lit', Memref.IsWhole.read_unread, read_unread_whole]
  rfl

set_option maxHeartbeats 400000 in
/-- A step inside a picture writes its result rows, from the state the step before it left. -/
theorem B_out (c : Dev nD) (t : Fin cfg0.N) (h0 : ¬t.val % 34 = 0) (h1 : ¬t.val % 17 = 0) (h2 : 1 ≤ t.val % 17) :
    (outsAt0 m c t.val t.isLt).1 = outT m c t (outsAt0 m c (t.val - 1) (by omega)).2.1 (outsAt0 m c (t.val - 1) (by omega)).2.2.1
      (outsAt0 m c (t.val - 1) (by omega)).2.2.2.1 (outsAt0 m c (t.val - 1) (by omega)).2.2.2.2 := by
  rw [outsAt0_B m c t h0 h1 h2]
  generalize outsAt0 m c (t.val - 1) _ = st
  frame_open
  simp (config := {maxSteps := 10000000}) (disch := decide) only [View.read_writes_junk_eq_canon, View.canon_cons_unit_lit',
    View.readAt_eq_ld, View.ld_unit_lit', View.readCov_unit_lit', View.readCov_cons_unit_lit', Memref.IsWhole.read_unread, read_unread_whole]
  refine Eq.trans ?_ (congrArg (fun o' => outT m c t st.2.1 o' st.2.2.2.1 st.2.2.2.2) (reread_eq st.2.2.1))
  unfold reread
  generalize View.ld (View.read (Elt Ideal) (View.whole cc0_scratch1) _) _ = y
  unfold outT
  generalize hO : k0_pay53 (F := Ideal) _ _ _ _ _ _ _ = O
  simp (config := {maxSteps := 10000000}) (disch := decide) only [View.read_writes_junk_eq_canon, View.canon_cons_unit_lit',
    View.readAt_eq_ld, View.ld_unit_lit', View.readCov_unit_lit', View.readCov_cons_unit_lit', Memref.IsWhole.read_unread, read_unread_whole] at hO
  rw [show hiddenT m c t (lastRows st.2.1) st.2.2.2.1 = O from hO]
  clear hO
  rfl

/-- A step inside a picture keeps the packed weights. -/
theorem B_walls (c : Dev nD) (t : Fin cfg0.N) (h0 : ¬t.val % 34 = 0) (h1 : ¬t.val % 17 = 0) (h2 : 1 ≤ t.val % 17) :
    (outsAt0 m c t.val t.isLt).2.2.2 = (outsAt0 m c (t.val - 1) (by omega)).2.2.2 := by
  rw [outsAt0_B m c t h0 h1 h2]; rfl

/-- The first step of a later picture keeps the packed weights. -/
theorem C_walls (c : Dev nD) (t : Fin cfg0.N) (h0 : ¬t.val % 34 = 0) (h1 : t.val % 17 = 0) (h2 : ¬1 ≤ t.val % 17) :
    (outsAt0 m c t.val t.isLt).2.2.2 = (outsAt0 m c (t.val - 1) (by omega)).2.2.2 := by
  rw [outsAt0_C m c t h0 h1 h2]; rfl

/-- The first step of a later picture leaves its fused rows. -/
theorem C_fused (c : Dev nD) (t : Fin cfg0.N) (h0 : ¬t.val % 34 = 0) (h1 : t.val % 17 = 0) (h2 : ¬1 ≤ t.val % 17) :
    (outsAt0 m c t.val t.isLt).2.1 = k0_pay55 (fusedT m c t) := by
  rw [outsAt0_C m c t h0 h1 h2]; frame_out; rfl

/-- The very first step leaves its fused rows. -/
theorem A_fused (c : Dev nD) (t : Fin cfg0.N) (h0 : t.val % 34 = 0) (h1 : t.val % 17 = 0) (h2 : ¬1 ≤ t.val % 17) :
    (outsAt0 m c t.val t.isLt).2.1 = k0_pay55 (fusedT m c t) := by
  rw [outsAt0_A m c t h0 h1 h2]; frame_out; rfl

/-- The first step of a later picture leaves its hidden rows, with a zero halo. -/
theorem C_hidden (c : Dev nD) (t : Fin cfg0.N) (h0 : ¬t.val % 34 = 0) (h1 : t.val % 17 = 0) (h2 : ¬1 ≤ t.val % 17) :
    (outsAt0 m c t.val t.isLt).2.2.1 =
      shapeCast S512x1024 (hiddenT m c t (lastRows k0_pay37)
        (outsAt0 m c (t.val - 1) (by omega)).2.2.2.1) shapeCasts_S512x1024_S512x1024 := by
  rw [outsAt0_C m c t h0 h1 h2]; frame_open
  simp (config := {maxSteps := 10000000}) (disch := decide) only [View.read_writes_junk_eq_canon, View.canon_cons_unit_lit',
    View.readAt_eq_ld, View.ld_unit_lit', View.readCov_unit_lit', View.readCov_cons_unit_lit', Memref.IsWhole.read_unread, read_unread_whole, View.readCov_eq_canon']
  rfl

/-- The very first step leaves its hidden rows, with a zero halo and the weights it has just packed. -/
theorem A_hidden (c : Dev nD) (t : Fin cfg0.N) (h0 : t.val % 34 = 0) (h1 : t.val % 17 = 0) (h2 : ¬1 ≤ t.val % 17) :
    (outsAt0 m c t.val t.isLt).2.2.1 =
      shapeCast S512x1024 (hiddenT m c t (lastRows k0_pay37)
        (outsAt0 m c t.val t.isLt).2.2.2.1) shapeCasts_S512x1024_S512x1024 := by
  rw [outsAt0_A m c t h0 h1 h2]; frame_open
  simp (config := {maxSteps := 10000000}) (disch := decide) only [View.read_writes_junk_eq_canon, View.canon_cons_unit_lit',
    View.readAt_eq_ld, View.ld_unit_lit', View.readCov_unit_lit', View.readCov_cons_unit_lit', Memref.IsWhole.read_unread, read_unread_whole, View.readCov_eq_canon']
  generalize (View.canon (Val := Elt Ideal) (s := S512x2304) (e := EltTy.bf16) _) = W
  rfl

end Cert.KernelIdeal.Terms
end
-- ==== Proof.Consts.lean ====
/-
The float constants of the two programs as extended reals.
-/
module

public import Idealize.ShloMosaic.PureOps.Ideal.Laws

@[expose] public section

noncomputable section

namespace Cert.Spec

open Idealize.ShloMosaic

/-- The word of negative infinity. -/
theorem negInf : Ideal.ofBits .f32 0xFF800000#32 = ⊥ := by
  simp [Ideal.ofBits, Ideal.ieee]

/-- The word of positive infinity. -/
theorem posInf : Ideal.ofBits .f32 0x7F800000#32 = ⊤ := by
  simp [Ideal.ofBits, Ideal.ieee]

/-- The word of two. -/
theorem two : Ideal.ofBits .f32 0x40000000#32 = ((2 : ℝ) : EReal) := by
  simp [Ideal.ofBits, Ideal.ieee, -EReal.coe_mul]
  norm_num

/-- The word of 256, the number of channels. -/
theorem count : Ideal.ofBits .f32 0x43800000#32 = ((256 : ℝ) : EReal) := by
  simp [Ideal.ofBits, Ideal.ieee, -EReal.coe_mul]
  norm_num

/-- The normalisation's small constant is positive. -/
theorem eps_pos : 0 < Ideal.ofBits .f32 0x3727C5AC#32 := by
  simp [Ideal.ofBits, Ideal.ieee, -EReal.coe_mul]

end Cert.Spec

end
-- ==== Proof.Pay.lean ====
/-
What one grid step computes, value by value: the fused rows, the rows with their halo, their two
shifted copies, and the mask of the hidden rows.

A block of rows is a matrix whose column `p` is the pixel in row `p / 128` of the block and column
`p % 128` of the picture; `Rows u R V` says that `V` holds the rows of the image `u` from row `R` on,
zero where they are off the picture.
-/
module
public import proofs.«01_k».proof.Proof.Terms
public import proofs.«01_k».proof.Proof.Spec
public import proofs.«01_k».proof.Proof.Consts
public import Idealize.ShloMosaic.Lib.Pointwise
@[expose] public section
set_option maxRecDepth 16384
noncomputable section
namespace Cert.KernelIdeal.Pay
open Idealize.ShloMosaic Idealize.ShloMosaic.TcCoe Idealize.SL.Sem
open Cert.KernelIdeal Cert.KernelIdeal.Gen Cert.KernelIdeal.Terms
open Cert.Spec
open scoped BigOperators

/-- The columns of `V` are the pixels of `u` from row `R` on, moved by `d` columns. -/
def Rows {C n : ℕ} (u : Img C) (R d : ℤ) (V : Fin C → Fin n → EReal) : Prop :=
  ∀ c p, V c p = zpad u c (R + (p.val / 128 : ℕ)) ((p.val % 128 : ℕ) + d)

/-- The block of a picture that step `i` reads. -/
def Reads (X : Fin 3 → Img 256) (i : ℕ) (x : FVec Ideal S1x3x256x8x128 .f32) : Prop :=
  ∀ (k : Fin 3) (c : Fin 256) (r : Fin 8) (l : Fin 128) (R : Fin 128), R.val = 8 * min i 15 + r.val →
    x (ix5 0 k c r l) = X k c R l

/-- The weights of the three branches at a pixel are the softmax of its scores. -/
theorem soft_at (X : Fin 3 → Img 256) (i : ℕ) (x : FVec Ideal S1x3x256x8x128 .f32) (wp : FVec Ideal S3x768 .f32)
    (bp : FVec Ideal S3x1 .f32) (hx : Reads X i x) (k : Fin 3) (p : Fin 1024) (R L : Fin 128)
    (hR : R.val = 8 * min i 15 + p.val / 128) (hL : L.val = p.val % 128) :
    k0_pay40 (F := Ideal) x wp bp (ix2 k p) =
      soft (score X (fun k q => wp (ix2 k q)) (fun k => bp (ix2 k 0)) R L) k := by
  pointwise [k0_pay40, k0_pay39]
  have eL : (⟨p.val % 128, by omega⟩ : Fin 128) = L := Fin.ext hL.symm
  have e : ∀ (k : Fin 3) (c : Fin 256), x (ix5 0 k c ⟨p.val / 128, by omega⟩ ⟨p.val % 128, by omega⟩) = X k c R ⟨p.val % 128, by omega⟩ :=
    fun k c => hx k c _ _ R hR
  simp only [eL] at e ⊢
  simp only [e, negInf]
  rfl

/-- The fused rows of step `i` are the fused picture from row `8 i` on, zero past its last row. -/
theorem fused_at (X : Fin 3 → Img 256) (i : ℕ) (hi : i < 17) (x : FVec Ideal S1x3x256x8x128 .f32) (wp : FVec Ideal S3x768 .f32)
    (bp : FVec Ideal S3x1 .f32) (hx : Reads X i x) :
    Rows (n := 1024) (fused X (fun k q => wp (ix2 k q)) (fun k => bp (ix2 k 0))) (8 * i) 0
      (fun c p => fusedV (BitVec.ofNat 32 i) x wp bp (ix2 c p)) := by
  intro c p
  unfold fusedV
  pointwise [k0_pay43, k0_pay41, k0_pay42, k0_pay39]
  have hp := p.isLt
  by_cases h : i < 16
  · have hs : Scalar.cmpi CmpIPredicate.slt (BitVec.ofNat 32 i) 16#32 = 1#1 := by
      clear hx; revert h; revert hi; revert i; decide
    rw [hs]
    have hR : 8 * i + p.val / 128 < 128 := by omega
    rw [zpad_in _ _ _ _ ⟨8 * i + p.val / 128, hR⟩ ⟨p.val % 128, by omega⟩ (by push_cast; rfl) rfl]
    have e : ∀ (k : Fin 3) (c : Fin 256), x (ix5 0 k c ⟨p.val / 128, by omega⟩ ⟨p.val % 128, by omega⟩) =
        X k c ⟨8 * i + p.val / 128, hR⟩ ⟨p.val % 128, by omega⟩ :=
      fun k c => hx k c _ _ _ (by simp only; omega)
    have z : ∀ k, k0_pay40 (F := Ideal) x wp bp (ix2 k p) = _ := fun k => soft_at X i x wp bp hx k p ⟨8 * i + p.val / 128, hR⟩
      ⟨p.val % 128, by omega⟩ (by simp only; omega) rfl
    have c0 : (⟨c.val / 256, by omega⟩ : Fin 3) = 0 := Fin.ext (by simp only; omega)
    have c1 : (⟨(256 + c.val) / 256, by omega⟩ : Fin 3) = 1 := Fin.ext (by simp only; omega)
    have c2 : (⟨(512 + c.val) / 256, by omega⟩ : Fin 3) = 2 := Fin.ext (by simp only; omega)
    have c3 : (⟨c.val % 256, by omega⟩ : Fin 256) = c := Fin.ext (by simp only; omega)
    simp only [z, e, c0, c1, c2, c3]
    rfl
  · obtain rfl : i = 16 := by omega
    rw [zpad_row _ _ _ _ (by omega)]
    rfl

/-- The remainder of the lane `p` by the width of the picture, as the kernel computes it. -/
abbrev lane (p : ℕ) : BitVec 32 :=
  Scalar.select
    (IntOp.andi
      (IntOp.xori (IntOp.cmpi CmpIPredicate.slt (IntOp.remsi ArithUnit.vector (BitVec.ofNat 32 p) 128#32) 0#32)
        (Scalar.cmpi CmpIPredicate.slt 128#32 0#32))
      (IntOp.cmpi CmpIPredicate.ne (IntOp.remsi ArithUnit.vector (BitVec.ofNat 32 p) 128#32) 0#32))
    (IntOp.addi (IntOp.remsi ArithUnit.vector (BitVec.ofNat 32 p) 128#32) 128#32)
    (IntOp.remsi ArithUnit.vector (BitVec.ofNat 32 p) 128#32)

/-- The kernel's test for the first column of a row. -/
theorem lane_first : ∀ p : Fin 1280, IntOp.cmpi CmpIPredicate.eq (lane p.val) 0#32 = if p.val % 128 = 0 then 1#1 else 0#1 := by
  decide +kernel

/-- The kernel's test for the last column of a row. -/
theorem lane_last : ∀ p : Fin 1280, IntOp.cmpi CmpIPredicate.eq (lane p.val) 127#32 = if p.val % 128 = 127 then 1#1 else 0#1 := by
  decide +kernel

/-- Rows rolled by one lane with the first column cleared hold each pixel's left neighbour. -/
theorem shift_left {C : ℕ} (u : Img C) (R : ℤ) (V : Fin C → Fin 1280 → EReal) (hV : Rows u R 0 V) (c : Fin C) (p : Fin 1280)
    (w : BitVec 1) (hw : w = IntOp.cmpi CmpIPredicate.eq (lane p.val) 0#32) :
    Scalar.select w (0 : EReal) (if h : p.val < 1 then V c ⟨1279 + p.val, by omega⟩ else V c ⟨p.val - 1, by omega⟩) =
      zpad u c (R + (p.val / 128 : ℕ)) ((p.val % 128 : ℕ) + -1) := by
  rw [hw, lane_first]
  by_cases h : p.val % 128 = 0
  · rw [if_pos h, zpad_col _ _ _ _ (by omega)]; rfl
  · rw [if_neg h, dif_neg (by omega)]
    refine (hV c _).trans ?_
    congr 1 <;> simp only <;> omega

/-- Rows rolled the other way with the last column cleared hold each pixel's right neighbour. -/
theorem shift_right {C : ℕ} (u : Img C) (R : ℤ) (V : Fin C → Fin 1280 → EReal) (hV : Rows u R 0 V) (c : Fin C) (p : Fin 1280)
    (w : BitVec 1) (hw : w = IntOp.cmpi CmpIPredicate.eq (lane p.val) 127#32) :
    Scalar.select w (0 : EReal) (if h : p.val < 1279 then V c ⟨1 + p.val, by omega⟩ else V c ⟨p.val - 1279, by omega⟩) =
      zpad u c (R + (p.val / 128 : ℕ)) ((p.val % 128 : ℕ) + 1) := by
  rw [hw, lane_last]
  have hp := p.isLt
  by_cases h : p.val % 128 = 127
  · rw [if_pos h, zpad_col _ _ _ _ (by omega)]; rfl
  · rw [if_neg h, dif_pos (by omega)]
    refine (hV c _).trans ?_
    congr 1 <;> simp only <;> omega

/-- A block of `a` lanes of rows with the rows after it below it. -/
theorem stack {C a b : ℕ} (u : Img C) (R : ℤ) (V : Fin C → Fin a → EReal) (W : Fin C → Fin b → EReal) (d : ℕ) (ha : a = 128 * d)
    (hV : Rows u R 0 V) (hW : Rows u (R + d) 0 W) (c : Fin C) (p : Fin (a + b)) :
    (if h : p.val < a then V c ⟨p.val, h⟩ else W c ⟨p.val - a, by omega⟩) =
      zpad u c (R + (p.val / 128 : ℕ)) ((p.val % 128 : ℕ)) := by
  split
  · exact (hV c _).trans (by simp)
  · refine (hW c _).trans ?_
    congr 1 <;> simp only <;> omega

/-- The fused rows below the two last rows of the block before them. -/
theorem halo_at (u : Img 256) (R : ℤ) (i : BitVec 32) (x : FVec Ideal S1x3x256x8x128 .f32) (wp : FVec Ideal S3x768 .f32)
    (bp : FVec Ideal S3x1 .f32) (top : FVec Ideal S256x256 .f32)
    (ht : Rows (n := 256) u R 0 fun c p => top (ix2 c p))
    (hf : Rows (n := 1024) u (R + 2) 0 fun c p => fusedV i x wp bp (ix2 c p)) :
    Rows (n := 1280) u R 0 fun c p => haloV i x wp bp top (ix2 c p) := by
  intro c p
  unfold haloV
  pointwise [k0_pay44]
  exact stack u R _ _ 2 rfl ht hf c p

/-- The first shifted copy of the fused rows holds each pixel's left neighbour. -/
theorem left_at (u : Img 256) (R : ℤ) (i : BitVec 32) (x : FVec Ideal S1x3x256x8x128 .f32) (wp : FVec Ideal S3x768 .f32)
    (bp : FVec Ideal S3x1 .f32) (top : FVec Ideal S256x256 .f32)
    (ht : Rows (n := 1280) u R 0 fun c p => haloV i x wp bp top (ix2 c p)) :
    Rows (n := 1280) u R (-1) fun c p => leftV i x wp bp top (ix2 c p) := by
  intro c p
  unfold leftV
  pointwise [k0_pay45]
  exact shift_left u R _ ht c p _ rfl

/-- The second shifted copy of the fused rows holds each pixel's right neighbour. -/
theorem right_at (u : Img 256) (R : ℤ) (i : BitVec 32) (x : FVec Ideal S1x3x256x8x128 .f32) (wp : FVec Ideal S3x768 .f32)
    (bp : FVec Ideal S3x1 .f32) (top : FVec Ideal S256x256 .f32)
    (ht : Rows (n := 1280) u R 0 fun c p => haloV i x wp bp top (ix2 c p)) :
    Rows (n := 1280) u R 1 fun c p => k0_pay48 (F := Ideal) (rollV i x wp bp top) 128#32 k0_pay47 (ix2 c p) := by
  intro c p
  unfold rollV
  pointwise [k0_pay48, k0_pay47, k0_pay46]
  exact shift_right u R _ ht c p _ rfl

/-- The nine taps of a layer, as its weight blocks. -/
def TapsOf {O C : ℕ} (w : Taps O C) (W : Fin 9 → Fin O → Fin C → EReal) : Prop :=
  ∀ (dy dx : Fin 3) (k : Fin 9), k.val = 3 * dy.val + dx.val → ∀ o c, W k o c = w o c dy dx

/-- One tap over a block of rows. -/
theorem tap_at {O C n : ℕ} (w : Taps O C) (u : Img C) (R d : ℤ) (V : Fin C → Fin n → EReal) (hV : Rows u R d V)
    (W : Fin C → EReal) (o : Fin O) (dy dx : Fin 3) (hW : ∀ c, W c = w o c dy dx) (p : ℕ) (q : Fin n)
    (hq : q.val = 128 * dy.val + p) (hd : d = (dx.val : ℤ) - 1) :
    ∑ c, W c * V c q = tap w u dy dx o (R + 1 + (p / 128 : ℕ)) (p % 128 : ℕ) := by
  unfold tap
  refine Finset.sum_congr rfl fun c _ => ?_
  rw [hW, hV]
  congr 2 <;> omega

/-- The nine taps over a block of rows with its halo and its two shifted copies. -/
theorem conv_at {O C : ℕ} (w : Taps O C) (u : Img C) (R : ℤ) (W : Fin 9 → Fin O → Fin C → EReal) (hw : TapsOf w W)
    (l m r : Fin C → Fin 1280 → EReal) (hl : Rows u R (-1) l) (hm : Rows u R 0 m) (hr : Rows u R 1 r) (o : Fin O) (p : Fin 1024) :
    ∑ x, W 0 o x * l x ⟨p.val, by omega⟩ + ∑ x, W 1 o x * m x ⟨p.val, by omega⟩ + ∑ x, W 2 o x * r x ⟨p.val, by omega⟩
      + ∑ x, W 3 o x * l x ⟨128 + p.val, by omega⟩ + ∑ x, W 4 o x * m x ⟨128 + p.val, by omega⟩
      + ∑ x, W 5 o x * r x ⟨128 + p.val, by omega⟩
      + ∑ x, W 6 o x * l x ⟨256 + p.val, by omega⟩ + ∑ x, W 7 o x * m x ⟨256 + p.val, by omega⟩
      + ∑ x, W 8 o x * r x ⟨256 + p.val, by omega⟩
      = conv w u o (R + 1 + (p.val / 128 : ℕ)) (p.val % 128 : ℕ) := by
  unfold conv
  have t := fun (d : ℤ) (V : Fin C → Fin 1280 → EReal) hV k dy dx hk q hq hd =>
    tap_at w u R d V hV (W k o) o dy dx (fun c => hw dy dx k hk o c) p.val q hq hd
  rw [t (-1) l hl 0 0 0 rfl _ (by simp) (by simp), t 0 m hm 1 0 1 rfl _ (by simp) (by simp), t 1 r hr 2 0 2 rfl _ (by simp) (by simp),
    t (-1) l hl 3 1 0 rfl _ (by simp) (by simp), t 0 m hm 4 1 1 rfl _ (by simp) (by simp), t 1 r hr 5 1 2 rfl _ (by simp) (by simp),
    t (-1) l hl 6 2 0 rfl _ (by simp) (by simp), t 0 m hm 7 2 1 rfl _ (by simp) (by simp), t 1 r hr 8 2 2 rfl _ (by simp) (by simp)]

/-- The named constant is the inverse of the square root of two. -/
theorem half_root : Named.named (F := Ideal) (φ := .f32) κ "sqrt_half" 1060439283#32 = (((Real.sqrt 2)⁻¹ : ℝ) : EReal) :=
  IdealRules.named_const.ideal_named_scalar _ _ _ _ rfl

/-- The row of a lane within its block, as the kernel computes it. -/
abbrev rowW (p : ℕ) : BitVec 32 :=
  Scalar.select
    (IntOp.andi
      (IntOp.cmpi CmpIPredicate.ne
        (IntOp.subi (BitVec.setWidth 32 (IntOp.cmpi CmpIPredicate.sgt (BitVec.ofNat 32 p) 0#32))
          (BitVec.setWidth 32 (IntOp.cmpi CmpIPredicate.slt (BitVec.ofNat 32 p) 0#32)))
        (Scalar.subi (Scalar.extui (Scalar.cmpi CmpIPredicate.sgt 128#32 0#32))
          (Scalar.extui (Scalar.cmpi CmpIPredicate.slt 128#32 0#32))))
      (IntOp.cmpi CmpIPredicate.ne (IntOp.remsi ArithUnit.vector (BitVec.ofNat 32 p) 128#32) 0#32))
    (IntOp.subi (IntOp.divsi ArithUnit.vector (BitVec.ofNat 32 p) 128#32) 1#32)
    (IntOp.divsi ArithUnit.vector (BitVec.ofNat 32 p) 128#32)

/-- The kernel's row of a lane is the lane divided by the width. -/
theorem rowW_eq : ∀ p : Fin 1024, rowW p.val = BitVec.ofNat 32 (p.val / 128) := by
  decide +kernel

/-- The bit that keeps a hidden row of step `i`: the row is a row of the picture. -/
abbrev maskW (i : ℕ) (a : BitVec 32) : BitVec 1 :=
  IntOp.andi
    (IntOp.cmpi CmpIPredicate.sge (IntOp.subi (IntOp.addi a (Scalar.muli (BitVec.ofNat 32 i) 8#32)) 1#32) 0#32)
    (IntOp.cmpi CmpIPredicate.slt (IntOp.subi (IntOp.addi a (Scalar.muli (BitVec.ofNat 32 i) 8#32)) 1#32) 128#32)

/-- The mask is set exactly on the rows of the picture. -/
theorem maskW_eq : ∀ (i : Fin 17) (a : Fin 8), maskW i.val (BitVec.ofNat 32 a.val) =
    if 1 ≤ 8 * i.val + a.val ∧ 8 * i.val + a.val ≤ 128 then 1#1 else 0#1 := by
  decide +kernel

/-- A value under the mask is kept on the rows of the picture and zero off them. -/
theorem select_mask (i : ℕ) (hi : i < 17) (p : Fin 1024) (w : BitVec 1) (hw : w = maskW i (rowW p.val)) (v : EReal) :
    Scalar.select w v 0 = if 1 ≤ 8 * i + p.val / 128 ∧ 8 * i + p.val / 128 ≤ 128 then v else 0 := by
  have h := maskW_eq ⟨i, hi⟩ ⟨p.val / 128, by omega⟩
  rw [hw, rowW_eq, h]
  split <;> rfl

/-- The hidden rows of a step: convolution, affine map and GELU of the rows with their halo. -/
theorem hidden_at (u : Img 256) (R : ℤ) (halo left roll : FVec Ideal S256x1280 .bf16) (w : Fin 9 → FVec Ideal S512x256 .bf16)
    (W : Taps 512 256) (g b : FVec Ideal S512x1 .f32)
    (hw : TapsOf W fun k o c => w k (ix2 o c))
    (hh : Rows (n := 1280) u R 0 fun c p => halo (ix2 c p))
    (hl : Rows (n := 1280) u R (-1) fun c p => left (ix2 c p))
    (hr : Rows (n := 1280) u R 1 fun c p => k0_pay48 (F := Ideal) roll 128#32 k0_pay47 (ix2 c p)) (f : Fin 512) (p : Fin 1024) :
    hiddenV halo left roll w g b (ix2 f p) =
      gelu (((Real.sqrt 2)⁻¹ : ℝ) : EReal) (conv W u f (R + 1 + (p.val / 128 : ℕ)) (p.val % 128 : ℕ) * g (ix2 f 0) + b (ix2 f 0)) := by
  unfold hiddenV
  pointwise [k0_pay50, k0_pay49]
  have e := conv_at W u R (fun k o c => w k (ix2 o c)) hw (fun c p => left (ix2 c p)) (fun c p => halo (ix2 c p)) _ hl hh hr f p
  rw [half_root]
  simp only [e]
  rfl

/-- The hidden rows after the mask: zero off the picture. -/
theorem masked_at (i : ℕ) (hi : i < 17) (h : FVec Ideal S512x1024 .f32) (f : Fin 512) (p : Fin 1024) :
    maskedV (BitVec.ofNat 32 i) h (ix2 f p) = if 1 ≤ 8 * i + p.val / 128 ∧ 8 * i + p.val / 128 ≤ 128 then h (ix2 f p) else 0 := by
  unfold maskedV
  pointwise [k0_pay53, k0_pay51, k0_pay52]
  exact select_mask i hi p _ rfl _

/-- The rows before the hidden rows of a step and the first two of its own. -/
theorem below_at (u : Img 512) (R : ℤ) (o o' : FVec Ideal S512x1024 .bf16)
    (h' : Rows (n := 1024) u R 0 fun c p => o' (ix2 c p))
    (h : Rows (n := 1024) u (R + 8) 0 fun c p => o (ix2 c p)) :
    Rows (n := 1280) u R 0 fun c p => k0_pay26 (F := Ideal) o o' (ix2 c p) := by
  intro c p
  pointwise [k0_pay26]
  exact stack (a := 1024) (b := 256) u R _ (fun c q => o (ix2 c ⟨q.val, by omega⟩)) 8 rfl h' (fun c q => h c ⟨q.val, by omega⟩) c p

/-- The first shifted copy of the hidden rows holds each pixel's left neighbour. -/
theorem below_left (u : Img 512) (R : ℤ) (o o' : FVec Ideal S512x1024 .bf16)
    (h : Rows (n := 1280) u R 0 fun c p => k0_pay26 (F := Ideal) o o' (ix2 c p)) :
    Rows (n := 1280) u R (-1) fun c p => k0_pay27 (F := Ideal) o o' (ix2 c p) := by
  intro c p
  pointwise [k0_pay27]
  exact shift_left u R _ h c p _ rfl

/-- The second shifted copy of the hidden rows holds each pixel's right neighbour. -/
theorem below_right (u : Img 512) (R : ℤ) (o o' : FVec Ideal S512x1024 .bf16)
    (h : Rows (n := 1280) u R 0 fun c p => k0_pay26 (F := Ideal) o o' (ix2 c p)) :
    Rows (n := 1280) u R 1 fun c p => k0_pay33 (F := Ideal) (k0_pay28 o o') (Scalar.select (Scalar.cmpi .eq 128#32 0#32) 1#32 128#32)
      k0_pay29 k0_pay30 k0_pay31 k0_pay32 (ix2 c p) := by
  intro c p
  pointwise [k0_pay33, k0_pay28, k0_pay29, k0_pay30, k0_pay31, k0_pay32]
  exact shift_right u R _ h c p _ rfl

/-- The normalisation as the kernel takes it: a product with the reciprocal root. -/
def normR (z lg lb : Fin 256 → EReal) (o : Fin 256) : EReal :=
  (z o - mean z) * Ideal.rsqrt (mean (fun k => (z k - mean z) * (z k - mean z)) + Ideal.ofBits .f32 0x3727C5AC#32) * lg o + lb o

/-- The result rows of a step: the normalised sum of the second layer and the residual. -/
theorem out_at (u : Img 512) (R : ℤ) (o o' : FVec Ideal S512x1024 .bf16) (w : Fin 9 → FVec Ideal S256x512 .bf16)
    (W : Taps 256 512) (g b lg lb : FVec Ideal S256x1 .f32) (r : FVec Ideal S256x1024 .f32)
    (hw : TapsOf W fun k o c => w k (ix2 o c))
    (h : Rows (n := 1280) u R 0 fun c p => k0_pay26 (F := Ideal) o o' (ix2 c p))
    (k : Fin 256) (a : Fin 8) (l : Fin 128) :
    outV o o' w g b r lg lb (ix4 0 k a l) =
      normR (fun c => conv W u c (R + 1 + (a.val : ℕ)) (l.val : ℕ) * g (ix2 c 0) + b (ix2 c 0)
          + r (ix2 c ⟨a.val * 128 + l.val, by omega⟩)) (fun c => lg (ix2 c 0)) (fun c => lb (ix2 c 0)) k := by
  unfold outV convV
  pointwise [k0_pay54, k0_pay36, k0_pay35, k0_pay34]
  have e := fun c => conv_at W u R (fun k o c => w k (ix2 o c)) hw _ _ _ (below_left u R o o' h) h (below_right u R o o' h) c
    ⟨a.val * 128 + l.val, by omega⟩
  have ha : (a.val * 128 + l.val) / 128 = a.val := by omega
  have hl : (a.val * 128 + l.val) % 128 = l.val := by omega
  simp only [ha, hl] at e
  simp only [e]
  rfl

end Cert.KernelIdeal.Pay
end
-- ==== Proof.Wall.lean ====
/-
The packed weights. On the first grid step the kernel rewrites each layer's weights from the order
they arrive in (all nine taps of an input channel next to each other) to one block per tap. It does
so by a product with a matrix that has a single one in each column; the sum over such a column is
one term, and the block of tap `k` holds the weights of tap `k`.
-/
module
public import proofs.«01_k».proof.Proof.Terms
@[expose] public section
set_option maxRecDepth 16384
noncomputable section
namespace Cert.KernelIdeal.Wall
open Idealize.ShloMosaic Idealize.ShloMosaic.TcCoe Idealize.SL.Sem
open Cert.KernelIdeal Cert.KernelIdeal.Gen Cert.KernelIdeal.Terms
open scoped BigOperators

/-- The entry of the selection matrix in row `r` and column `c`, as the kernel computes it. -/
abbrev selW (r c : ℕ) : EReal :=
  FloatOps.sitofp (F := Ideal) FTy.f32
    (BitVec.setWidth 32 (IntOp.cmpi CmpIPredicate.eq (BitVec.ofNat 32 r) (IntOp.muli (BitVec.ofNat 32 c) 9#32)))

/-- It is one in row `9 c` and zero elsewhere. -/
theorem selW_eq (r c : ℕ) (hr : r < 4608) (hc : c < 512) : selW r c = if r = 9 * c then 1 else 0 := by
  have e : IntOp.cmpi CmpIPredicate.eq (BitVec.ofNat 32 r) (IntOp.muli (BitVec.ofNat 32 c) 9#32) = if r = 9 * c then 1#1 else 0#1 := by
    have h : (BitVec.ofNat 32 r = BitVec.ofNat 32 c * 9#32) ↔ r = 9 * c := by
      rw [← BitVec.toNat_inj]
      simp only [BitVec.toNat_mul, BitVec.toNat_ofNat]
      omega
    have hb : (BitVec.ofNat 32 r == BitVec.ofNat 32 c * 9#32) = decide (r = 9 * c) := by
      rw [Bool.eq_iff_iff, beq_iff_eq, h, decide_eq_true_iff]
    show BitVec.ofBool (BitVec.ofNat 32 r == BitVec.ofNat 32 c * 9#32) = _
    rw [hb]
    by_cases h' : r = 9 * c <;> simp [h']
  unfold selW
  rw [e]
  split <;> simp [FloatOps.sitofp]

/-- A product with that matrix, the row split in two where the rolled weights wrap round. -/
theorem pick {A B : ℕ} (V₁ : Fin A → EReal) (V₂ : Fin B → EReal) (c : ℕ) (h : A + B ≤ 4608) (hc : 9 * c < A) :
    ∑ x : Fin A, V₁ x * selW x.val c + ∑ x : Fin B, V₂ x * selW (A + x.val) c = V₁ ⟨9 * c, hc⟩ := by
  rw [Finset.sum_eq_single ⟨9 * c, hc⟩, Finset.sum_eq_zero, selW_eq _ _ (by simp; omega) (by omega), if_pos rfl, mul_one, add_zero]
  · intro x _
    rw [selW_eq _ _ (by omega) (by omega), if_neg (by omega), mul_zero]
  · intro x _ hx
    rw [selW_eq _ _ (by omega) (by omega), if_neg (fun e => hx (Fin.ext e)), mul_zero]
  · intro hx; exact absurd (Finset.mem_univ _) hx

/-- The same product, the row in one piece. -/
theorem pick_whole {A : ℕ} (V : Fin A → EReal) (c : ℕ) (h : A ≤ 4608) (hc : 9 * c < A) :
    ∑ x : Fin A, V x * selW x.val c = V ⟨9 * c, hc⟩ := by
  have := pick V (fun _ : Fin 0 => 0) c (by omega) hc
  simpa using this

/-- The same product, one entry of the row wrapped round. -/
theorem pick_one {A : ℕ} (V : Fin A → EReal) (v : EReal) (w : BitVec 32) (c : ℕ) (hw : w = BitVec.ofNat 32 A) (h : A < 4608)
    (hc : 9 * c < A) :
    ∑ x : Fin A, V x * selW x.val c + ∑ _x : Fin 1, v * FloatOps.sitofp (F := Ideal) FTy.f32
      (BitVec.setWidth 32 (IntOp.cmpi CmpIPredicate.eq w (IntOp.muli (BitVec.ofNat 32 c) 9#32))) = V ⟨9 * c, hc⟩ := by
  subst hw
  have := pick V (fun _ : Fin 1 => v) c (by omega) hc
  simpa using this

/-- Indices with equal coordinates are equal. -/
theorem ix2_eq {m n : ℕ} {a a' : Fin m} {b b' : Fin n} (ha : a.val = a'.val) (hb : b.val = b'.val) : ix2 a b = ix2 a' b' := by
  obtain rfl := Fin.ext ha
  obtain rfl := Fin.ext hb
  rfl

variable (m : (ℓ : Loc nD τ sig) → Buf (Elt Ideal) ℓ)

/-- The source column of a packed weight of the first layer exists. -/
theorem wallA_bound (y : S512x2304.Idx) : 9 * ((y 1).val % 256) + (y 1).val / 256 < 2304 := by
  have : (y 1).val < 2304 := (y 1).isLt
  omega

/-- The source column of a packed weight of the second layer exists. -/
theorem wallB_bound (y : S256x4608.Idx) : 9 * ((y 1).val % 512) + (y 1).val / 512 < 4608 := by
  have : (y 1).val < 4608 := (y 1).isLt
  omega

/-- The first layer's packed weights after the first step. -/
theorem wallA (c : Dev nD) (t : Fin cfg0.N) (h0 : t.val % 34 = 0) (h1 : t.val % 17 = 0) (h2 : ¬1 ≤ t.val % 17) (y : S512x2304.Idx) :
    (outsAt0 m c t.val t.isLt).2.2.2.1 y = iblk m c 3 t (ix2 (y 0) ⟨9 * ((y 1).val % 256) + (y 1).val / 256, wallA_bound y⟩) := by
  rw [outsAt0_A m c t h0 h1 h2]; frame_open
  simp (config := {maxSteps := 10000000}) (disch := decide) only [View.read_writes_junk_eq_canon, View.canon_cons_unit_lit',
    View.readAt_eq_ld, View.ld_unit_lit', View.readCov_unit_lit', View.readCov_cons_unit_lit', Memref.IsWhole.read_unread]
  clear h0 h1 h2
  canon_tiles x h
  case piece8 =>
    pointwise
    refine (pick_whole _ _ (by omega) (by omega)).trans ?_
    exact congrArg (iblk m c 3 t) (ix2_eq h0.symm (by simp only; omega))
  case piece7 =>
    pointwise
    simp only [Memref.IsWhole.read_unread]
    refine (pick_one _ _ _ _ rfl (by omega) (by omega)).trans ?_
    exact congrArg (iblk m c 3 t) (ix2_eq h0.symm (by simp only; omega))
  all_goals
    pointwise
    simp only [Memref.IsWhole.read_unread]
    refine (pick _ _ _ (by omega) (by omega)).trans ?_
    exact congrArg (iblk m c 3 t) (ix2_eq h0.symm (by simp only; omega))

/-- The second layer's packed weights after the first step. -/
theorem wallB (c : Dev nD) (t : Fin cfg0.N) (h0 : t.val % 34 = 0) (h1 : t.val % 17 = 0) (h2 : ¬1 ≤ t.val % 17) (y : S256x4608.Idx) :
    (outsAt0 m c t.val t.isLt).2.2.2.2 y = iblk m c 6 t (ix2 (y 0) ⟨9 * ((y 1).val % 512) + (y 1).val / 512, wallB_bound y⟩) := by
  rw [outsAt0_A m c t h0 h1 h2]; frame_open
  simp (config := {maxSteps := 10000000}) (disch := decide) only [View.read_writes_junk_eq_canon, View.canon_cons_unit_lit',
    View.readAt_eq_ld, View.ld_unit_lit', View.readCov_unit_lit', View.readCov_cons_unit_lit', Memref.IsWhole.read_unread]
  clear h0 h1 h2
  canon_tiles x h
  case piece8 =>
    pointwise
    refine (pick_whole _ _ (by omega) (by omega)).trans ?_
    exact congrArg (iblk m c 6 t) (ix2_eq h0.symm (by simp only; omega))
  case piece7 =>
    pointwise
    simp only [Memref.IsWhole.read_unread]
    refine (pick_one _ _ _ _ rfl (by omega) (by omega)).trans ?_
    exact congrArg (iblk m c 6 t) (ix2_eq h0.symm (by simp only; omega))
  all_goals
    pointwise
    simp only [Memref.IsWhole.read_unread]
    refine (pick _ _ _ (by omega) (by omega)).trans ?_
    exact congrArg (iblk m c 6 t) (ix2_eq h0.symm (by simp only; omega))

end Cert.KernelIdeal.Wall
end
-- ==== Proof.Blocks.lean ====
/-
The blocks a grid step reads, in terms of the program's arguments: step `t` works on picture `t / 17`
and reads rows `8 min (t mod 17) 15` on of its feature maps; every other block is a whole operand,
reshaped or, for the two layers' shifts, multiplied out by the host beforehand.
-/
module

public import proofs.«01_k».proof.Proof.Arrays
public import proofs.«01_k».proof.Proof.Pay
public import proofs.«01_k».proof.Proof.Wall
public import Idealize.ShloMosaic.Lib.Claim

@[expose] public section

set_option maxRecDepth 16384

noncomputable section

namespace Cert.KernelIdeal.Blocks

open Idealize.ShloMosaic Idealize.ShloMosaic.TcCoe Idealize.SL.Sem
open Cert.KernelIdeal Cert.KernelIdeal.Gen Cert.KernelIdeal.Pay Cert.Spec

variable (m : (ℓ : Loc nD τ sig) → Buf (Elt Ideal) ℓ)

/-- The index maps of the windows whose block moves, and the step's second grid coordinate. -/
theorem idx : ∀ t : Fin cfg0.N, win0_0.index t = ![t.val / 17, 0, 0, min (t.val % 17) 15, 0]
    ∧ win0_11.index t = ![t.val / 17, 0, t.val % 17 - 1, 0] ∧ (grid0.coords t 1).val = t.val % 17 ∧ t.val / 17 < 2 :=
  (by decide +kernel : ∀ t : Fin grid0.N, _)

/-- The index maps of the windows whose block is a whole operand. -/
theorem idx_whole : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] :=
  (by decide +kernel : ∀ t : Fin grid0.N, _)

/-- The picture step `t` works on. -/
def pic (t : Fin cfg0.N) : Fin 2 := ⟨t.val / 17, (idx t).2.2.2⟩

/-- The block of feature maps that step `t` reads: rows `8 min (t mod 17) 15` on of picture `t / 17`. -/
theorem x_at (c : Dev nD) (t : Fin cfg0.N) :
    Reads (imgOf (m ((c : Thread nD τ).loc main_arg0)) (pic t)) (t.val % 17) (iblk m c 0 t) := by
  intro k ch r l R hR
  unfold imgOf pic
  blk_ext [iblk, V, idx t]

/-- The weights of the 1x1 convolution, as a step reads them. -/
theorem wp_at (c : Dev nD) (t : Fin cfg0.N) (k : Fin 3) (q : Fin 768) :
    (iblk m c 1 t : FVec Ideal S3x768 .f32) (ix2 k q) = projOf (m ((c : Thread nD τ).loc main_arg1)) k q := by
  unfold projOf
  blk_simp [iblk, idx_whole t]; entry_read; pointwise; blk_ext [idx_whole t]

/-- Its biases, as a step reads them. -/
theorem bp_at (c : Dev nD) (t : Fin cfg0.N) (k : Fin 3) :
    (iblk m c 2 t : FVec Ideal S3x1 .f32) (ix2 k 0) = vecOf (m ((c : Thread nD τ).loc main_arg2)) k := by
  unfold vecOf
  blk_simp [iblk, idx_whole t]; entry_read; pointwise; blk_ext [idx_whole t]

/-- The first layer's weights, as a step reads them: column `9 i + 3 dy + dx` holds tap `(dy, dx)` of input channel `i`. -/
theorem w1_at (c : Dev nD) (t : Fin cfg0.N) (o : Fin 512) (i : Fin 256) (dy dx : Fin 3) (q : Fin 2304)
    (hq : q.val = 9 * i.val + (3 * dy.val + dx.val)) :
    (iblk m c 3 t : FVec Ideal S512x2304 .f32) (ix2 o q) = tapsOf (m ((c : Thread nD τ).loc main_arg3)) o i dy dx := by
  unfold tapsOf
  blk_simp [iblk, idx_whole t]; entry_read; pointwise; blk_ext [idx_whole t]

/-- The first layer's scales, as a step reads them. -/
theorem g1_at (c : Dev nD) (t : Fin cfg0.N) (o : Fin 512) :
    (iblk m c 4 t : FVec Ideal S512x1 .f32) (ix2 o 0) = vecOf (m ((c : Thread nD τ).loc main_arg5)) o := by
  unfold vecOf
  blk_simp [iblk, idx_whole t]; entry_read; pointwise; blk_ext [idx_whole t]

/-- The first layer's shifts, as a step reads them: bias times scale, plus shift. -/
theorem t1_at (c : Dev nD) (t : Fin cfg0.N) (o : Fin 512) :
    (iblk m c 5 t : FVec Ideal S512x1 .f32) (ix2 o 0) =
      vecOf (m ((c : Thread nD τ).loc main_arg4)) o * vecOf (m ((c : Thread nD τ).loc main_arg5)) o
        + vecOf (m ((c : Thread nD τ).loc main_arg6)) o := by
  unfold vecOf
  blk_simp [iblk, idx_whole t]; entry_read; pointwise; blk_point [idx_whole t]

/-- The second layer's weights, as a step reads them, in the same order as the first layer's. -/
theorem w2_at (c : Dev nD) (t : Fin cfg0.N) (o : Fin 256) (i : Fin 512) (dy dx : Fin 3) (q : Fin 4608)
    (hq : q.val = 9 * i.val + (3 * dy.val + dx.val)) :
    (iblk m c 6 t : FVec Ideal S256x4608 .f32) (ix2 o q) = tapsOf (m ((c : Thread nD τ).loc main_arg7)) o i dy dx := by
  unfold tapsOf
  blk_simp [iblk, idx_whole t]; entry_read; pointwise; blk_ext [idx_whole t]

/-- The second layer's scales, as a step reads them. -/
theorem g2_at (c : Dev nD) (t : Fin cfg0.N) (o : Fin 256) :
    (iblk m c 7 t : FVec Ideal S256x1 .f32) (ix2 o 0) = vecOf (m ((c : Thread nD τ).loc main_arg9)) o := by
  unfold vecOf
  blk_simp [iblk, idx_whole t]; entry_read; pointwise; blk_ext [idx_whole t]

/-- The second layer's shifts, as a step reads them: bias times scale, plus shift. -/
theorem t2_at (c : Dev nD) (t : Fin cfg0.N) (o : Fin 256) :
    (iblk m c 8 t : FVec Ideal S256x1 .f32) (ix2 o 0) =
      vecOf (m ((c : Thread nD τ).loc main_arg8)) o * vecOf (m ((c : Thread nD τ).loc main_arg9)) o
        + vecOf (m ((c : Thread nD τ).loc main_arg10)) o := by
  unfold vecOf
  blk_simp [iblk, idx_whole t]; entry_read; pointwise; blk_point [idx_whole t]

/-- The normalisation's scales, as a step reads them. -/
theorem lg_at (c : Dev nD) (t : Fin cfg0.N) (o : Fin 256) :
    (iblk m c 9 t : FVec Ideal S256x1 .f32) (ix2 o 0) = vecOf (m ((c : Thread nD τ).loc main_arg11)) o := by
  unfold vecOf
  blk_simp [iblk, idx_whole t]; entry_read; pointwise; blk_ext [idx_whole t]

/-- The normalisation's shifts, as a step reads them. -/
theorem lb_at (c : Dev nD) (t : Fin cfg0.N) (o : Fin 256) :
    (iblk m c 10 t : FVec Ideal S256x1 .f32) (ix2 o 0) = vecOf (m ((c : Thread nD τ).loc main_arg12)) o := by
  unfold vecOf
  blk_simp [iblk, idx_whole t]; entry_read; pointwise; blk_ext [idx_whole t]

end Cert.KernelIdeal.Blocks

end
-- ==== Proof.Inv.lean ====
/-
What the scratch buffers hold after each grid step. A step of picture `b` with number `i` leaves the
fused rows `8 i .. 8 i + 7` and the hidden rows `8 i - 1 .. 8 i + 6` (zero where these are off the
picture), and the packed weights written by the first step stay. From there every step but a picture's
first writes the finished rows `8 (i - 1) .. 8 i - 1`.
-/
module

public import proofs.«01_k».proof.Proof.Blocks

@[expose] public section

set_option maxRecDepth 16384

noncomputable section

namespace Cert.KernelIdeal.Inv

open Idealize.ShloMosaic Idealize.ShloMosaic.TcCoe Idealize.SL.Sem
open Cert.KernelIdeal Cert.KernelIdeal.Gen Cert.KernelIdeal.Terms Cert.KernelIdeal.Pay Cert.KernelIdeal.Blocks Cert.Spec

variable (m : (ℓ : Loc nD τ sig) → Buf (Elt Ideal) ℓ)

/-- The fused picture. -/
def U (c : Dev nD) (b : Fin 2) : Img 256 :=
  fused (imgOf (m ((c : Thread nD τ).loc main_arg0)) b) (projOf (m ((c : Thread nD τ).loc main_arg1)))
    (vecOf (m ((c : Thread nD τ).loc main_arg2)))

/-- The first layer's taps. -/
def W1 (c : Dev nD) : Taps 512 256 := tapsOf (m ((c : Thread nD τ).loc main_arg3))
/-- The second layer's taps. -/
def W2 (c : Dev nD) : Taps 256 512 := tapsOf (m ((c : Thread nD τ).loc main_arg7))

/-- The first layer's scales. -/
def G1 (c : Dev nD) : Fin 512 → EReal := vecOf (m ((c : Thread nD τ).loc main_arg5))
/-- The first layer's shifts, as the host multiplies them out. -/
def T1 (c : Dev nD) : Fin 512 → EReal := fun f =>
  vecOf (m ((c : Thread nD τ).loc main_arg4)) f * vecOf (m ((c : Thread nD τ).loc main_arg5)) f
    + vecOf (m ((c : Thread nD τ).loc main_arg6)) f
/-- The second layer's scales. -/
def G2 (c : Dev nD) : Fin 256 → EReal := vecOf (m ((c : Thread nD τ).loc main_arg9))
/-- The second layer's shifts, as the host multiplies them out. -/
def T2 (c : Dev nD) : Fin 256 → EReal := fun o =>
  vecOf (m ((c : Thread nD τ).loc main_arg8)) o * vecOf (m ((c : Thread nD τ).loc main_arg9)) o
    + vecOf (m ((c : Thread nD τ).loc main_arg10)) o

/-- The hidden picture, in the form the kernel computes it. -/
def H (c : Dev nD) (b : Fin 2) : Img 512 := fun f r l =>
  gelu halfRoot (conv (W1 m c) (U m c b) f (r : ℕ) (l : ℕ) * G1 m c f + T1 m c f)

/-- The fused rows a step computes are rows `8 i .. 8 i + 7` of the fused picture. -/
theorem step_fused (c : Dev nD) (t : Fin cfg0.N) :
    Rows (n := 1024) (U m c (pic t)) (8 * (t.val % 17 : ℕ)) 0 fun o p => fusedT m c t (ix2 o p) := by
  have h := fused_at (imgOf (m ((c : Thread nD τ).loc main_arg0)) (pic t)) (t.val % 17) (by omega)
    (iblk m c 0 t) (iblk m c 1 t) (iblk m c 2 t) (x_at m c t)
  intro o p
  unfold fusedT stepW
  rw [(idx t).2.2.1, h o p]
  unfold U
  congr 2
  · funext k q; exact wp_at m c t k q
  · funext k; exact bp_at m c t k

/-- From the two fused rows above its own and the packed weights a step computes the hidden rows `8 i - 1 .. 8 i + 6`. -/
theorem step_hidden (c : Dev nD) (t : Fin cfg0.N) (top : FVec Ideal S256x256 .f32) (W : FVec Ideal S512x2304 .bf16)
    (ht : Rows (n := 256) (U m c (pic t)) (8 * (t.val % 17 : ℕ) - 2) 0 fun o p => top (ix2 o p))
    (hW : TapsOf (W1 m c) fun k o i => tapA W k (ix2 o i)) :
    Rows (n := 1024) (H m c (pic t)) (8 * (t.val % 17 : ℕ) - 1) 0 fun f p => hiddenT m c t top W (ix2 f p) := by
  have hf := step_fused m c t
  unfold fusedT at hf
  have hh := halo_at (U m c (pic t)) _ (stepW t) (iblk m c 0 t) (iblk m c 1 t) (iblk m c 2 t) top ht
    (by rw [show (8 * ((t.val % 17 : ℕ) : ℤ) - 2 + 2) = 8 * (t.val % 17 : ℕ) by omega]; exact hf)
  have hl := left_at _ _ _ _ _ _ _ hh
  have hr := right_at _ _ _ _ _ _ _ hh
  intro f p
  beta_reduce
  unfold hiddenT
  rw [show stepW t = BitVec.ofNat 32 (t.val % 17) from by unfold stepW; rw [(idx t).2.2.1]] at hh hl hr ⊢
  rw [masked_at (t.val % 17) (by omega), hidden_at (U m c (pic t)) _ _ _ _ _ (W1 m c) _ _ hW hh hl hr f p]
  have hp := p.isLt
  split
  · rename_i hb
    rw [zpad_in (H m c (pic t)) f _ _ ⟨8 * (t.val % 17) + p.val / 128 - 1, by omega⟩ ⟨p.val % 128, by omega⟩ (by simp; omega) (by simp)]
    unfold H halfRoot G1 T1
    rw [g1_at m c t f, t1_at m c t f]
    congr 5
    simp; omega
  · rw [zpad_row]; omega

/-- What the buffers hold after step `t`. -/
structure After (c : Dev nD) (t : Fin cfg0.N) : Prop where
  fused : Rows (n := 1024) (U m c (pic t)) (8 * (t.val % 17 : ℕ)) 0
    fun o p => ((outsAt0 m c t.val t.isLt).2.1 : FVec Ideal S256x1024 .f32) (ix2 o p)
  hidden : Rows (n := 1024) (H m c (pic t)) (8 * (t.val % 17 : ℕ) - 1) 0
    fun f p => ((outsAt0 m c t.val t.isLt).2.2.1 : FVec Ideal S512x1024 .bf16) (ix2 f p)
  wall1 : TapsOf (W1 m c) fun k o i => tapA (outsAt0 m c t.val t.isLt).2.2.2.1 k (ix2 o i)
  wall2 : TapsOf (W2 m c) fun k o i => tapB (outsAt0 m c t.val t.isLt).2.2.2.2 k (ix2 o i)

/-- Storing the fused rows keeps them. -/
theorem carry_fused (f g : FVec Ideal S256x1024 .f32) (u : Img 256) (R : ℤ) (h : g = k0_pay55 f)
    (hf : Rows (n := 1024) u R 0 fun o p => f (ix2 o p)) : Rows (n := 1024) u R 0 fun o p => g (ix2 o p) := by
  subst h
  intro o p
  rw [← hf o p]
  pointwise [k0_pay55]

/-- Storing the hidden rows keeps them. -/
theorem carry_hidden (f g : FVec Ideal S512x1024 .bf16) (u : Img 512) (R : ℤ) (h : g = shapeCast S512x1024 f shapeCasts_S512x1024_S512x1024)
    (hf : Rows (n := 1024) u R 0 fun o p => f (ix2 o p)) : Rows (n := 1024) u R 0 fun o p => g (ix2 o p) := by
  subst h
  intro o p
  rw [← hf o p]
  pointwise

/-- The two rows above the picture are zero. -/
theorem no_rows (u : Img 256) : Rows (n := 256) u (-2) 0 fun o p => lastRows (k0_pay37 (F := Ideal)) (ix2 o p) := by
  intro o p
  beta_reduce
  rw [lastRows_at, zpad_row _ _ _ _ (by omega)]
  pointwise [k0_pay37]

/-- The last two of eight rows. -/
theorem last_rows (u : Img 256) (R : ℤ) (f : FVec Ideal S256x1024 .f32) (hf : Rows (n := 1024) u R 0 fun o p => f (ix2 o p)) :
    Rows (n := 256) u (R + 6) 0 fun o p => lastRows f (ix2 o p) := by
  intro o p
  have h := hf o ⟨768 + p.val, by omega⟩
  beta_reduce at h ⊢
  rw [lastRows_at, h]
  congr 1 <;> simp <;> omega

/-- The first step packs the first layer's weights tap by tap. -/
theorem packed1 (c : Dev nD) (t : Fin cfg0.N) (h0 : t.val % 34 = 0) (h1 : t.val % 17 = 0) (h2 : ¬1 ≤ t.val % 17) :
    TapsOf (W1 m c) fun k o i => tapA (outsAt0 m c t.val t.isLt).2.2.2.1 k (ix2 o i) := by
  intro dy dx k hk o i
  beta_reduce
  rw [tapA_at, Wall.wallA m c t h0 h1 h2]
  exact w1_at m c t o i dy dx _ (by simp; omega)

/-- The first step packs the second layer's weights tap by tap. -/
theorem packed2 (c : Dev nD) (t : Fin cfg0.N) (h0 : t.val % 34 = 0) (h1 : t.val % 17 = 0) (h2 : ¬1 ≤ t.val % 17) :
    TapsOf (W2 m c) fun k o i => tapB (outsAt0 m c t.val t.isLt).2.2.2.2 k (ix2 o i) := by
  intro dy dx k hk o i
  beta_reduce
  rw [tapB_at, Wall.wallB m c t h0 h1 h2]
  exact w2_at m c t o i dy dx _ (by simp; omega)

/-- The step before `t`. -/
def prev (t : Fin cfg0.N) : Fin cfg0.N := ⟨t.val - 1, by omega⟩

/-- The last two fused rows a step finds belong just above its own. -/
theorem top_of_prev (c : Dev nD) (t : Fin cfg0.N) (h1 : 1 ≤ t.val % 17) (h : After m c (prev t)) :
    Rows (n := 256) (U m c (pic t)) (8 * (t.val % 17 : ℕ) - 2) 0
      fun o p => lastRows (outsAt0 m c (prev t).val (prev t).isLt).2.1 (ix2 o p) := by
  have e := last_rows _ _ _ h.fused
  rw [show pic (prev t) = pic t from Fin.ext (by unfold pic prev; simp; omega)] at e
  rw [show (8 * (t.val % 17 : ℕ) - 2 : ℤ) = 8 * ((prev t).val % 17 : ℕ) + 6 by unfold prev; simp; omega]
  exact e

/-- A step leaves the buffers as they should be when the step before it did, and the very first step does so from any state. -/
theorem after_step (c : Dev nD) (t : Fin cfg0.N) (h : ¬t.val % 34 = 0 → After m c (prev t)) : After m c t := by
  by_cases h0 : t.val % 34 = 0
  · have h1 : t.val % 17 = 0 := by omega
    have h2 : ¬1 ≤ t.val % 17 := by omega
    have w1 := packed1 m c t h0 h1 h2
    refine ⟨carry_fused _ _ _ _ (A_fused m c t h0 h1 h2) (step_fused m c t), carry_hidden _ _ _ _ (A_hidden m c t h0 h1 h2) ?_, w1,
      packed2 m c t h0 h1 h2⟩
    refine step_hidden m c t _ _ ?_ w1
    rw [h1]
    exact no_rows _
  · have hp := h h0
    by_cases h1 : t.val % 17 = 0
    · have h2 : ¬1 ≤ t.val % 17 := by omega
      have hw := C_walls m c t h0 h1 h2
      refine ⟨carry_fused _ _ _ _ (C_fused m c t h0 h1 h2) (step_fused m c t), carry_hidden _ _ _ _ (C_hidden m c t h0 h1 h2) ?_,
        by rw [hw]; exact hp.wall1, by rw [hw]; exact hp.wall2⟩
      refine step_hidden m c t _ _ ?_ hp.wall1
      rw [h1]
      exact no_rows _
    · have h2 : 1 ≤ t.val % 17 := by omega
      have hw := B_walls m c t h0 h1 h2
      refine ⟨carry_fused _ _ _ _ (B_fused m c t h0 h1 h2) (step_fused m c t), carry_hidden _ _ _ _ (B_hidden m c t h0 h1 h2) ?_,
        by rw [hw]; exact hp.wall1, by rw [hw]; exact hp.wall2⟩
      exact step_hidden m c t _ _ (top_of_prev m c t h2 hp) hp.wall1

/-- After every step the buffers hold what they should. -/
theorem after (c : Dev nD) : ∀ (n : ℕ) (h : n < cfg0.N), After m c ⟨n, h⟩
  | 0, h => after_step m c ⟨0, h⟩ fun h0 => absurd rfl h0
  | n + 1, h => after_step m c ⟨n + 1, h⟩ fun _ => after c n (by omega)

/-- The picture the kernel computes, before the normalisation. -/
def Z (c : Dev nD) (b : Fin 2) (r l : Fin 128) : Fin 256 → EReal := fun o =>
  conv (W2 m c) (H m c b) o (r : ℕ) (l : ℕ) * G2 m c o + T2 m c o + U m c b o r l

/-- The rows a step writes. -/
theorem step_out (c : Dev nD) (t : Fin cfg0.N) (h0 : ¬t.val % 34 = 0) (h1 : ¬t.val % 17 = 0) (h2 : 1 ≤ t.val % 17)
    (k : Fin 256) (a : Fin 8) (l r : Fin 128) (hr : r.val = 8 * (t.val % 17 - 1) + a.val) :
    ((outsAt0 m c t.val t.isLt).1 : FVec Ideal S1x256x8x128 .f32) (ix4 0 k a l) =
      normR (Z m c (pic t) r l) (vecOf (m ((c : Thread nD τ).loc main_arg11))) (vecOf (m ((c : Thread nD τ).loc main_arg12))) k := by
  have hp : After m c (prev t) := after m c (prev t).val (prev t).isLt
  have e : pic (prev t) = pic t := Fin.ext (by unfold pic prev; simp; omega)
  have hb : Rows (n := 1024) (H m c (pic t)) (8 * ((t.val % 17 - 1 : ℕ) : ℤ) - 1) 0
      fun f p => ((outsAt0 m c (prev t).val (prev t).isLt).2.2.1 : FVec Ideal S512x1024 .bf16) (ix2 f p) := by
    have hh := hp.hidden
    rw [e] at hh
    rw [show (8 * ((t.val % 17 - 1 : ℕ) : ℤ) - 1 : ℤ) = 8 * ((prev t).val % 17 : ℕ) - 1 by unfold prev; simp; omega]
    exact hh
  have ho := step_hidden m c t _ _ (top_of_prev m c t h2 hp) hp.wall1
  rw [B_out m c t h0 h1 h2]
  unfold outT
  refine (out_at (H m c (pic t)) _ _ _ _ (W2 m c) _ _ _ _ _ hp.wall2 (below_at _ _ _ _ hb (by
    rw [show (8 * ((t.val % 17 - 1 : ℕ) : ℤ) - 1 + 8 : ℤ) = 8 * (t.val % 17 : ℕ) - 1 by omega]; exact ho)) k a l).trans ?_
  congr 1
  · funext o
    unfold Z G2 T2
    rw [g2_at m c t o, t2_at m c t o]
    have hf := hp.fused o ⟨a.val * 128 + l.val, by omega⟩
    rw [e, zpad_in (U m c (pic t)) o _ _ r l (by unfold prev; simp; omega) (by simp; omega)] at hf
    congr 1
    congr 3
    simp; omega
  · funext o; exact lg_at m c t o
  · funext o; exact lb_at m c t o

end Cert.KernelIdeal.Inv

end
-- ==== Proof.Algebra.lean ====
/-
The two equations of extended reals between the kernel's formula and the specification's. The affine
map may be multiplied out when the bias and the scale are finite, whatever the sum they are applied
to; a product with the reciprocal root of a positive number is the quotient by the root.
-/
module

public import proofs.«01_k».proof.Proof.Spec
public import proofs.«01_k».proof.Proof.Consts

@[expose] public section

noncomputable section

namespace Cert.Spec

open Idealize.ShloMosaic

/-- With a finite bias `b` and scale `g` the affine map of any extended real `a` may be multiplied out. -/
theorem affine (a b g t : EReal) (hb : b ≠ ⊤ ∧ b ≠ ⊥) (hg : g ≠ ⊤ ∧ g ≠ ⊥) : a * g + (b * g + t) = (a + b) * g + t := by
  rw [← add_assoc]
  congr 1
  lift b to ℝ using hb
  lift g to ℝ using hg
  induction a with
  | coe a => norm_cast; ring
  | top =>
    rcases lt_trichotomy g 0 with h | h | h
    · rw [EReal.top_add_coe, EReal.top_mul_coe_of_neg h, ← EReal.coe_mul, EReal.bot_add]
    · subst h; simp
    · rw [EReal.top_add_coe, EReal.top_mul_coe_of_pos h, ← EReal.coe_mul, EReal.top_add_coe]
  | bot =>
    rcases lt_trichotomy g 0 with h | h | h
    · rw [EReal.bot_add, EReal.bot_mul_coe_of_neg h, ← EReal.coe_mul, EReal.top_add_coe]
    · subst h; simp
    · rw [EReal.bot_add, EReal.bot_mul_coe_of_pos h, EReal.bot_add]

/-- The product with the reciprocal root of a positive number is the quotient by the root. -/
theorem mul_rsqrt (a v : EReal) (hv : 0 < v) : a * Ideal.rsqrt v = Ideal.div a (Ideal.sqrt v) := by
  induction v with
  | bot => exact absurd hv (by simp)
  | top => rw [Ideal.sqrt_top, Ideal.rsqrt_top, Ideal.div, if_neg EReal.top_ne_zero, EReal.inv_top]
  | coe r =>
    have hr : 0 < r := by exact_mod_cast hv
    have hs : 0 < Real.sqrt r := Real.sqrt_pos.mpr hr
    have e : ((Real.sqrt r : ℝ) : EReal) ≠ 0 := by exact_mod_cast hs.ne'
    rw [Ideal.rsqrt_coe, if_neg (by linarith), if_neg hr.ne']
    rw [Ideal.sqrt_coe, if_neg (not_lt.mpr hr.le), Ideal.div, if_neg e, EReal.coe_inv]

/-- A square is not negative, infinite values included. -/
theorem sq_nonneg' (x : EReal) : 0 ≤ x * x := by
  induction x with
  | bot => simp
  | top => simp
  | coe r => exact_mod_cast mul_self_nonneg r

/-- The mean of squares and a positive number are positive. -/
theorem var_pos (z : Fin 256 → EReal) : 0 < mean (fun k => z k * z k) + Ideal.ofBits .f32 0x3727C5AC#32 := by
  have h : 0 ≤ mean fun k => z k * z k := by
    unfold mean
    rw [count, Ideal.div, if_neg (by norm_num), ← EReal.coe_inv]
    exact mul_nonneg (Finset.sum_nonneg fun k _ => sq_nonneg' _) (by exact_mod_cast (by norm_num : (0 : ℝ) ≤ 256⁻¹))
  exact lt_of_lt_of_le eps_pos (le_add_of_nonneg_left h)

end Cert.Spec

end
-- ==== Proof.Infinite.lean ====
/-
Infinite values. An infinite bias may keep the affine map from being multiplied out, but then both forms are infinite, and
the normalisation sends every pixel with an infinite channel to the same values.
-/
module

public import proofs.«01_k».proof.Proof.Algebra

@[expose] public section

noncomputable section

namespace Cert.Spec

open Idealize.ShloMosaic

/-- One of the two infinities. -/
def Inf (x : EReal) : Prop := x = ⊤ ∨ x = ⊥

/-- A sum with an infinite term is infinite. -/
theorem Inf.add {x : EReal} (h : Inf x) (y : EReal) : Inf (x + y) := by
  rcases h with rfl | rfl
  · induction y with
    | bot => exact .inr (EReal.add_bot _)
    | top => exact .inl rfl
    | coe r => exact .inl (EReal.top_add_coe r)
  · exact .inr (EReal.bot_add y)

/-- A product of an infinite number and a real one that is not zero is infinite. -/
theorem Inf.mul {x : EReal} (h : Inf x) {r : ℝ} (hr : r ≠ 0) : Inf (x * r) := by
  rcases h with rfl | rfl <;> rcases lt_or_gt_of_ne hr with h | h
  · exact .inr (EReal.top_mul_coe_of_neg h)
  · exact .inl (EReal.top_mul_coe_of_pos h)
  · exact .inl (EReal.bot_mul_coe_of_neg h)
  · exact .inr (EReal.bot_mul_coe_of_pos h)

/-- The square of an infinite number is positive infinity. -/
theorem Inf.sq {x : EReal} (h : Inf x) : x * x = ⊤ := by
  rcases h with rfl | rfl <;> simp

/-- The negative of an infinite number is infinite. -/
theorem Inf.neg {x : EReal} (h : Inf x) : Inf (-x) := by
  rcases h with rfl | rfl
  · exact .inr rfl
  · exact .inl rfl

/-- With a finite scale the affine map can be multiplied out, or both its forms are infinite. -/
theorem affine_or (a b g t : EReal) (hg : g ≠ ⊤ ∧ g ≠ ⊥) :
    a * g + (b * g + t) = (a + b) * g + t ∨ Inf (a * g + (b * g + t)) ∧ Inf ((a + b) * g + t) := by
  by_cases hb : Inf b
  · lift g to ℝ using hg
    by_cases h : g = 0
    · subst h; simp
    · refine .inr ⟨?_, ?_⟩
      · rw [add_comm]
        exact ((hb.mul h).add t).add _
      · rw [add_comm a]
        exact ((hb.add a).mul h).add t
  · exact .inl (affine a b g t ⟨fun h => hb (.inl h), fun h => hb (.inr h)⟩ hg)

/-- The mean of 256 numbers is their sum times the real number 1/256. -/
theorem mean_mul (z : Fin 256 → EReal) : mean z = (∑ k : Fin 256, z k) * ((256⁻¹ : ℝ) : EReal) := by
  unfold mean
  rw [count, Ideal.div, if_neg (by norm_num), ← EReal.coe_inv]

/-- The mean of numbers one of which is infinite is infinite. -/
theorem Inf.mean {z : Fin 256 → EReal} {k : Fin 256} (h : Inf (z k)) : Inf (mean z) := by
  rw [mean_mul, ← Finset.add_sum_erase _ _ (Finset.mem_univ k)]
  exact (h.add _).mul (by norm_num)

/-- The variance of numbers one of which is infinite is infinite. -/
theorem Inf.var {z : Fin 256 → EReal} {k : Fin 256} (h : Inf (z k)) :
    Spec.mean (fun j => (z j - Spec.mean z) * (z j - Spec.mean z)) = ⊤ := by
  have e : (fun j => (z j - Spec.mean z) * (z j - Spec.mean z)) = fun _ => ⊤ := funext fun j => by
    rw [sub_eq_add_neg, add_comm]
    exact (h.mean.neg.add (z j)).sq
  have s : ∀ n : ℕ, (∑ _j : Fin (n + 1), (⊤ : EReal)) = ⊤ := fun n => by
    induction n with
    | zero => simp
    | succ n ih => rw [Fin.sum_univ_succ, ih]; rfl
  rw [e, mean_mul, s 255]
  exact EReal.top_mul_coe_of_pos (by norm_num)

/-- A pixel one of whose channels is infinite is normalised to the shift, whatever its channels are. -/
theorem Inf.norm {z : Fin 256 → EReal} {k : Fin 256} (h : Inf (z k)) (lg lb : Fin 256 → EReal) (o : Fin 256) :
    Spec.norm z lg lb o = lb o := by
  unfold Spec.norm
  rw [h.var, EReal.top_add_of_ne_bot (ne_bot_of_gt eps_pos), Ideal.sqrt_top, Ideal.div, if_neg EReal.top_ne_zero,
    EReal.inv_top, mul_zero, zero_mul, zero_add]

/-- Two pixels whose channels are equal, or else both infinite, are normalised to the same values. -/
theorem norm_congr (z z' lg lb : Fin 256 → EReal) (h : ∀ k, z k = z' k ∨ Inf (z k) ∧ Inf (z' k)) (o : Fin 256) :
    Spec.norm z lg lb o = Spec.norm z' lg lb o := by
  by_cases hz : ∃ k, Inf (z k) ∧ Inf (z' k)
  · obtain ⟨k, h1, h2⟩ := hz
    rw [h1.norm, h2.norm]
  · rw [show z = z' from funext fun k => (h k).resolve_right fun hk => hz ⟨k, hk⟩]

end Cert.Spec

end
-- ==== Proof.Final.lean ====
/-
The result array after the run, one formula: every step that writes its block back has written the
rows it should, and these blocks cover the array. Then the two places where the kernel's formula is
not the specification's: the affine maps, where the kernel adds the bias after it scales, and the
normalisation, where it multiplies with a reciprocal root.
-/
module

public import proofs.«01_k».proof.Proof.Inv
public import proofs.«01_k».proof.Proof.Infinite

@[expose] public section

set_option maxRecDepth 16384

noncomputable section

namespace Cert.KernelIdeal.Final

open Idealize.ShloMosaic Idealize.ShloMosaic.TcCoe Idealize.SL.Sem
open Cert.KernelIdeal Cert.KernelIdeal.Gen Cert.KernelIdeal.Pay Cert.KernelIdeal.Blocks Cert.KernelIdeal.Inv Cert.Spec
open Idealize.ShloMosaic.Pipeline (Dat)

variable (m : (ℓ : Loc nD τ sig) → Buf (Elt Ideal) ℓ)

/-- A step that writes its block back is not the first of its picture. -/
theorem flush_late : ∀ t : Fin cfg0.N, (cfg0.win 11).flush t = true → 1 ≤ t.val % 17 :=
  (by decide +kernel : ∀ t : Fin grid0.N, _)

/-- The array the kernel leaves. -/
def out (c : Dev nD) : FVec Ideal S2x256x128x128 .f32 := fun y =>
  normR (Z m c (y 0) (y 2) (y 3)) (vecOf (m ((c : Thread nD τ).loc main_arg11))) (vecOf (m ((c : Thread nD τ).loc main_arg12))) (y 1)

/-- After the run the result array holds `out`. -/
theorem final (c : Dev nD) : (dats m 0 c).arrAt 11 (cfgs 0).N = out m c := by
  refine (dats m 0 c).arrAt_eq_of_covers 11 _ (by decide +kernel) fun t hf y => ?_
  have h2 := flush_late t hf
  blk_simp
  rw [after0_11]
  have e := step_out m c t (by omega) (by omega) h2 (y 1) (y 2) (y 3)
  have eb : (win0_11.blk t).view.emb y = ix4 (pic t) (y 1) ⟨8 * (t.val % 17 - 1) + (y 2).val, by have := (y 2).isLt; have : (y 2).val < 8 := (y 2).isLt; omega⟩ (y 3) := by
    unfold pic
    blk_ext [idx t]
  have ey : y = ix4 0 (y 1) (y 2) (y 3) := by blk_ext [idx t]
  rw [eb]
  exact (congrArg _ ey).trans (e _ rfl)

/-- The normalisation by the reciprocal root is the one by the root. -/
theorem normR_eq (z lg lb : Fin 256 → EReal) (o : Fin 256) : normR z lg lb o = norm z lg lb o := by
  unfold normR Spec.norm
  rw [mul_rsqrt _ _ (var_pos fun k => z k - mean z)]

/-- A vector of finite numbers. -/
def Finite {n : ℕ} (v : FVec Ideal ⟨1, ![n]⟩ .f32) : Prop := ∀ k : Fin n, vecOf v k ≠ ⊤ ∧ vecOf v k ≠ ⊥

/-- With finite scales and a finite first bias what the kernel leaves at an index is the specification's result: where an
    infinite second bias keeps a channel from being the specification's, both are infinite, and the normalisation does not
    tell them apart. -/
theorem out_at (c : Dev nD) (hb1 : Finite (n := 512) (m ((c : Thread nD τ).loc main_arg4)))
    (hg1 : Finite (n := 512) (m ((c : Thread nD τ).loc main_arg5)))
    (hg2 : Finite (n := 256) (m ((c : Thread nD τ).loc main_arg9))) (b : Fin 2) (o : Fin 256) (r l : Fin 128) :
    normR (Z m c b r l) (vecOf (m ((c : Thread nD τ).loc main_arg11))) (vecOf (m ((c : Thread nD τ).loc main_arg12))) o =
      result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) b o r l := by
  have hH : H m c b = hidden halfRoot (W1 m c) (vecOf (m ((c : Thread nD τ).loc main_arg4))) (G1 m c)
      (vecOf (m ((c : Thread nD τ).loc main_arg6))) (U m c b) := by
    funext f r l
    unfold H Spec.hidden T1 G1
    rw [affine _ _ _ _ (hb1 f) (hg1 f)]
  rw [normR_eq]
  unfold result block
  refine norm_congr _ _ _ _ (fun k => ?_) o
  unfold Z outer
  rw [hH]
  rcases affine_or (conv (W2 m c) (hidden halfRoot (W1 m c) (vecOf (m ((c : Thread nD τ).loc main_arg4))) (G1 m c)
      (vecOf (m ((c : Thread nD τ).loc main_arg6))) (U m c b)) k (r : ℕ) (l : ℕ)) (vecOf (m ((c : Thread nD τ).loc main_arg8)) k)
      (G2 m c k) (vecOf (m ((c : Thread nD τ).loc main_arg10)) k) (hg2 k) with h | h
  · exact .inl (congrArg (· + U m c b k r l) h)
  · exact .inr ⟨h.1.add _, h.2.add _⟩

end Cert.KernelIdeal.Final

end
-- ==== Proof.Pre.lean ====
/-
The precondition of the value claim, read as finiteness of the four vectors it speaks of.
-/
module

public import proofs.«01_k».proof.Defs
public import proofs.«01_k».proof.Proof.Consts
public import proofs.«01_k».proof.Proof.Final

@[expose] public section

noncomputable section

namespace Cert.Pre_finite

open Idealize.ShloMosaic
open Cert.KernelIdeal.Final (Finite)

/-- An extended real whose absolute value lies below infinity is neither of the two infinities. -/
theorem ne_of_abs_lt {a : EReal} (h : max a (-a) < ⊤) : a ≠ ⊤ ∧ a ≠ ⊥ := by
  refine ⟨?_, ?_⟩ <;> rintro rfl <;> simp at h

/-- Comparing the absolute values of a vector with infinity, and finding every one below it, says the vector is finite. -/
theorem finite_of_lt {n : ℕ} (hb : S_.BroadcastsInDim ⟨1, ![n]⟩ (![] : Fin 0 → Fin (Shape.mk 1 ![n]).rank))
    (v : FVec Ideal ⟨1, ![n]⟩ .f32)
    (h : cmpf .olt (Host.absf v) (broadcastInDim ⟨1, ![n]⟩ ![] hb (constant S_ .f32 0x7F800000#32)) = fun _ => 1#1) :
    Finite v := by
  intro k
  have hk : FloatOps.cmpf .olt (FloatOps.absf (v (ix1 k))) (Ideal.ofBits .f32 0x7F800000#32 : Ideal .f32) = 1#1 :=
    congrFun h (ix1 k)
  rw [Ideal.cmpf_def, Ideal.absf_def, Cert.Spec.posInf] at hk
  refine ne_of_abs_lt (a := v (ix1 k)) ?_
  by_contra hn
  simp [Ideal.cmp, hn] at hk

end Cert.Pre_finite

end
-- ==== Proof.Ref.lean ====
/-
The reference read at an index: each of its stages is the matching part of the specification.
-/
module

public import proofs.«01_k».proof.Proof.Arrays
public import proofs.«01_k».proof.Proof.Consts
public import proofs.«01_k».proof.Proof.Gen.ReferenceIdeal.Read
public import Idealize.ShloMosaic.Lib.Pointwise

@[expose] public section

set_option maxRecDepth 16384

noncomputable section

namespace Cert.ReferenceIdeal.Stages

open Idealize.ShloMosaic Idealize.SL.Sem
open Cert.ReferenceIdeal Cert.ReferenceIdeal.Read Cert.Spec

variable (x0 : FVec Ideal S2x3x256x128x128 .f32) (x1 : FVec Ideal S3x768x1x1 .f32) (x2 : FVec Ideal S3 .f32)
  (x3 : FVec Ideal S512x256x3x3 .f32) (x4 x5 x6 : FVec Ideal S512 .f32) (x7 : FVec Ideal S256x512x3x3 .f32)
  (x8 x9 x10 x11 x12 : FVec Ideal S256 .f32)

/-- One tap, as a sum over the channels of an image padded by one pixel all round. -/
theorem tap_sum {O C : ℕ} (w : FVec Ideal ⟨4, ![O, C, 3, 3]⟩ .f32) (u : Img C) (V : Fin C → Fin 130 → Fin 130 → EReal)
    (hV : ∀ c r l, V c r l = zpad u c ((r : ℕ) - 1) ((l : ℕ) - 1)) (o : Fin O) (dy dx : Fin 3)
    (r l : Fin 128) (r' l' : Fin 130) (hr : r'.val = r.val + dy.val) (hl : l'.val = l.val + dx.val) :
    ∑ c, V c r' l' * w (ix4 o c dy dx) = tap (tapsOf w) u dy dx o (r : ℕ) (l : ℕ) := by
  unfold tap tapsOf
  refine Finset.sum_congr rfl fun c _ => ?_
  rw [hV, mul_comm]
  congr 2
  · omega
  · omega

/-- Nine taps added in order are the convolution. -/
theorem conv_of {O C : ℕ} {w : Taps O C} {u : Img C} {o : Fin O} {R L : ℤ} {s0 s1 s2 s3 s4 s5 s6 s7 s8 : EReal}
    (h0 : s0 = tap w u 0 0 o R L) (h1 : s1 = tap w u 0 1 o R L) (h2 : s2 = tap w u 0 2 o R L)
    (h3 : s3 = tap w u 1 0 o R L) (h4 : s4 = tap w u 1 1 o R L) (h5 : s5 = tap w u 1 2 o R L)
    (h6 : s6 = tap w u 2 0 o R L) (h7 : s7 = tap w u 2 1 o R L) (h8 : s8 = tap w u 2 2 o R L) :
    s0 + s1 + s2 + s3 + s4 + s5 + s6 + s7 + s8 = conv w u o R L := by
  rw [h0, h1, h2, h3, h4, h5, h6, h7, h8]
  rfl

/-- The reference's scores. -/
theorem score_at (b : Fin 2) (k : Fin 3) (r l : Fin 128) :
    val_main_v6 (F := Ideal) x0 x1 x2 (ix4 b k r l) = score (imgOf x0 b) (projOf x1) (vecOf x2) r l k := by
  unfold score imgOf projOf vecOf
  pointwise [val_main_v6, val_main_v5, val_main_v4, val_main_v3, val_main_v2, val_main_v1, val_main_v0]
  congr 1
  exact Finset.sum_congr rfl fun q _ => mul_comm _ _

/-- The reference's softmax over the branches. -/
theorem soft_at (b : Fin 2) (k : Fin 3) (r l : Fin 128) :
    val_main_v17 (F := Ideal) x0 x1 x2 (ix4 b k r l) = soft (score (imgOf x0 b) (projOf x1) (vecOf x2) r l) k := by
  have e : (fun k => val_main_v6 (F := Ideal) x0 x1 x2 (ix4 b k r l)) = score (imgOf x0 b) (projOf x1) (vecOf x2) r l :=
    funext fun k => score_at x0 x1 x2 b k r l
  rw [← e]
  unfold soft
  pointwise [val_main_v17, val_main_v16, val_main_v15, val_main_v14, val_main_v13, val_main_v12, val_main_v11, val_main_v10,
    val_main_v9, val_main_v8, val_main_v7, val_main_cst, val_main_cst_0, val_main_cst_1]
  simp only [negInf, bot_le, max_eq_right]

/-- The reference's fused picture. -/
theorem fused_at (b : Fin 2) (c : Fin 256) (r l : Fin 128) :
    val_main_v21 (F := Ideal) x0 x1 x2 (ix4 b c r l) = fused (imgOf x0 b) (projOf x1) (vecOf x2) c r l := by
  unfold fused
  pointwise [val_main_v21, val_main_v20, val_main_v19, val_main_v18, val_main_cst_2]
  rw [Fin.sum_univ_three, soft_at, soft_at, soft_at, mul_comm, mul_comm (x0 (ix5 b 1 c r l)), mul_comm (x0 (ix5 b 2 c r l))]
  rfl

/-- The fused picture padded by one pixel all round. -/
theorem padded_at (b : Fin 2) (c : Fin 256) (r l : Fin 130) :
    val_main_v22 (F := Ideal) x0 x1 x2 (ix4 b c r l) =
      zpad (fused (imgOf x0 b) (projOf x1) (vecOf x2)) c ((r : ℕ) - 1) ((l : ℕ) - 1) := by
  pointwise [val_main_v22, val_main_call0_v0, val_main_c]
  split
  · rename_i h
    rw [fused_at, zpad_in _ _ _ _ ⟨r.val - 1, by omega⟩ ⟨l.val - 1, by omega⟩ (by simp; omega) (by simp; omega)]
  · unfold zpad
    rw [dif_neg (by omega)]
    simp [FloatOps.sitofp]

/-- The reference's first convolution. -/
theorem conv_at (b : Fin 2) (o : Fin 512) (r l : Fin 128) :
    val_main_v75 (F := Ideal) x0 x1 x2 x3 (ix4 b o r l) =
      conv (tapsOf x3) (fused (imgOf x0 b) (projOf x1) (vecOf x2)) o (r : ℕ) (l : ℕ) := by
  pointwise [val_main_v75, val_main_v74, val_main_v73, val_main_v72, val_main_v71, val_main_v70, val_main_v69, val_main_v68, val_main_v67,
    val_main_v66, val_main_v65, val_main_v64, val_main_v63, val_main_v62, val_main_v61, val_main_v60, val_main_v59, val_main_v58,
    val_main_v57, val_main_v56, val_main_v55, val_main_v54, val_main_v53, val_main_v52, val_main_v51, val_main_v50, val_main_v49,
    val_main_v48, val_main_v47, val_main_v46, val_main_v45, val_main_v44, val_main_v43, val_main_v42, val_main_v41, val_main_v40,
    val_main_v39, val_main_v38, val_main_v37, val_main_v36, val_main_v35, val_main_v34, val_main_v33, val_main_v32, val_main_v31,
    val_main_v30, val_main_v29, val_main_v28, val_main_v27, val_main_v26, val_main_v25, val_main_v24, val_main_v23]
  have T := fun dy dx r' l' => tap_sum x3 _ _ (padded_at x0 x1 x2 b) o dy dx r l r' l'
  exact conv_of (T 0 0 _ _ (by simp) (by simp)) (T 0 1 _ _ (by simp) (by simp; omega)) (T 0 2 _ _ (by simp) (by simp; omega))
    (T 1 0 _ _ (by simp; omega) (by simp)) (T 1 1 _ _ (by simp; omega) (by simp; omega)) (T 1 2 _ _ (by simp; omega) (by simp; omega))
    (T 2 0 _ _ (by simp; omega) (by simp)) (T 2 1 _ _ (by simp; omega) (by simp; omega)) (T 2 2 _ _ (by simp; omega) (by simp; omega))

end Cert.ReferenceIdeal.Stages

end
-- ==== Proof.Result.lean ====
/-
The reference's hidden layer, its second convolution and its normalisation, read at an index, and
with them its whole result.
-/
module

public import proofs.«01_k».proof.Proof.Ref

@[expose] public section

set_option maxRecDepth 16384

noncomputable section

namespace Cert.ReferenceIdeal.Stages

open Idealize.ShloMosaic Idealize.SL.Sem
open Cert.ReferenceIdeal Cert.ReferenceIdeal.Read Cert.Spec

variable (x0 : FVec Ideal S2x3x256x128x128 .f32) (x1 : FVec Ideal S3x768x1x1 .f32) (x2 : FVec Ideal S3 .f32)
  (x3 : FVec Ideal S512x256x3x3 .f32) (x4 x5 x6 : FVec Ideal S512 .f32) (x7 : FVec Ideal S256x512x3x3 .f32)
  (x8 x9 x10 x11 x12 : FVec Ideal S256 .f32)

/-- The quotient by the root of two is the product with its reciprocal. -/
theorem div_root (y : EReal) : Ideal.div y (Ideal.sqrt (Ideal.ofBits FTy.f32 1073741824#32)) = y * halfRoot := by
  have hs : Real.sqrt 2 ≠ 0 := (Real.sqrt_pos.mpr (by norm_num)).ne'
  rw [two, Ideal.sqrt_coe, if_neg (by norm_num), Ideal.div_coe hs, one_div]
  rfl

/-- The reference's hidden layer. -/
theorem hidden_at (b : Fin 2) (f : Fin 512) (r l : Fin 128) :
    val_main_v93 (F := Ideal) x0 x1 x2 x3 x4 x5 x6 (ix4 b f r l) =
      hidden halfRoot (tapsOf x3) (vecOf x4) (vecOf x5) (vecOf x6) (fused (imgOf x0 b) (projOf x1) (vecOf x2)) f r l := by
  unfold Spec.hidden
  rw [← conv_at]
  unfold gelu vecOf
  pointwise [val_main_v93, val_main_v92, val_main_v91, val_main_v90, val_main_v89, val_main_v88, val_main_v87, val_main_v86, val_main_v85, val_main_v84, val_main_v83,
    val_main_v82, val_main_v81, val_main_v80, val_main_v79, val_main_v78, val_main_v77, val_main_v76, val_main_cst_3, val_main_cst_4, val_main_cst_5]
  rw [div_root]

/-- The hidden layer padded by one pixel all round. -/
theorem padded_hidden_at (b : Fin 2) (c : Fin 512) (r l : Fin 130) :
    val_main_v94 (F := Ideal) x0 x1 x2 x3 x4 x5 x6 (ix4 b c r l) =
      zpad (hidden halfRoot (tapsOf x3) (vecOf x4) (vecOf x5) (vecOf x6) (fused (imgOf x0 b) (projOf x1) (vecOf x2))) c
        ((r : ℕ) - 1) ((l : ℕ) - 1) := by
  pointwise [val_main_v94, val_main_call1_v0, val_main_c_6]
  split
  · rename_i h
    rw [hidden_at, zpad_in _ _ _ _ ⟨r.val - 1, by omega⟩ ⟨l.val - 1, by omega⟩ (by simp; omega) (by simp; omega)]
  · unfold zpad
    rw [dif_neg (by omega)]
    simp [FloatOps.sitofp]

/-- The reference's second convolution. -/
theorem conv_hidden_at (b : Fin 2) (o : Fin 256) (r l : Fin 128) :
    val_main_v147 (F := Ideal) x0 x1 x2 x3 x4 x5 x6 x7 (ix4 b o r l) =
      conv (tapsOf x7) (hidden halfRoot (tapsOf x3) (vecOf x4) (vecOf x5) (vecOf x6) (fused (imgOf x0 b) (projOf x1) (vecOf x2))) o
        (r : ℕ) (l : ℕ) := by
  pointwise [val_main_v147, val_main_v146, val_main_v145, val_main_v144, val_main_v143, val_main_v142, val_main_v141, val_main_v140,
    val_main_v139, val_main_v138, val_main_v137, val_main_v136, val_main_v135, val_main_v134, val_main_v133, val_main_v132,
    val_main_v131, val_main_v130, val_main_v129, val_main_v128, val_main_v127, val_main_v126, val_main_v125, val_main_v124,
    val_main_v123, val_main_v122, val_main_v121, val_main_v120, val_main_v119, val_main_v118, val_main_v117, val_main_v116,
    val_main_v115, val_main_v114, val_main_v113, val_main_v112, val_main_v111, val_main_v110, val_main_v109, val_main_v108,
    val_main_v107, val_main_v106, val_main_v105, val_main_v104, val_main_v103, val_main_v102, val_main_v101, val_main_v100,
    val_main_v99, val_main_v98, val_main_v97, val_main_v96, val_main_v95]
  have T := fun dy dx r' l' => tap_sum x7 _ _ (padded_hidden_at x0 x1 x2 x3 x4 x5 x6 b) o dy dx r l r' l'
  exact conv_of (T 0 0 _ _ (by simp) (by simp)) (T 0 1 _ _ (by simp) (by simp; omega)) (T 0 2 _ _ (by simp) (by simp; omega))
    (T 1 0 _ _ (by simp; omega) (by simp)) (T 1 1 _ _ (by simp; omega) (by simp; omega)) (T 1 2 _ _ (by simp; omega) (by simp; omega))
    (T 2 0 _ _ (by simp; omega) (by simp)) (T 2 1 _ _ (by simp; omega) (by simp; omega)) (T 2 2 _ _ (by simp; omega) (by simp; omega))

/-- The reference's layer before the normalisation. -/
theorem outer_at (b : Fin 2) (o : Fin 256) (r l : Fin 128) :
    val_main_v157 (F := Ideal) x0 x1 x2 x3 x4 x5 x6 x7 x8 x9 x10 (ix4 b o r l) =
      outer (tapsOf x7) (vecOf x8) (vecOf x9) (vecOf x10) (fused (imgOf x0 b) (projOf x1) (vecOf x2))
        (hidden halfRoot (tapsOf x3) (vecOf x4) (vecOf x5) (vecOf x6) (fused (imgOf x0 b) (projOf x1) (vecOf x2))) o r l := by
  unfold outer
  rw [← conv_hidden_at, ← fused_at]
  unfold vecOf
  pointwise [val_main_v157, val_main_v156, val_main_v155, val_main_v154, val_main_v153, val_main_v152, val_main_v151, val_main_v150,
    val_main_v149, val_main_v148]

/-- The reference's last stage is the normalisation of the channels of each pixel. -/
theorem norm_at (b : Fin 2) (o : Fin 256) (r l : Fin 128) :
    val_main_v183 (F := Ideal) x0 x1 x2 x3 x4 x5 x6 x7 x8 x9 x10 x11 x12 (ix4 b o r l) =
      norm (fun k => val_main_v157 (F := Ideal) x0 x1 x2 x3 x4 x5 x6 x7 x8 x9 x10 (ix4 b k r l)) (vecOf x11) (vecOf x12) o := by
  unfold Spec.norm mean vecOf
  pointwise [val_main_v183, val_main_v182, val_main_v181, val_main_v180, val_main_v179, val_main_v178, val_main_v177, val_main_v176,
    val_main_v175, val_main_v174, val_main_v173, val_main_v172, val_main_v171, val_main_v170, val_main_v169, val_main_v168,
    val_main_v167, val_main_v166, val_main_v165, val_main_v164, val_main_v163, val_main_v162, val_main_v161, val_main_v160,
    val_main_v159, val_main_v158, val_main_cst_7,
    val_main_cst_8, val_main_cst_9, val_main_cst_10, val_main_cst_11]

/-- The reference's result. -/
theorem result_at (b : Fin 2) (o : Fin 256) (r l : Fin 128) :
    val_main_v183 (F := Ideal) x0 x1 x2 x3 x4 x5 x6 x7 x8 x9 x10 x11 x12 (ix4 b o r l) =
      result x0 x1 x2 x3 x4 x5 x6 x7 x8 x9 x10 x11 x12 b o r l := by
  rw [norm_at]
  unfold result block
  congr 1
  funext k
  exact outer_at x0 x1 x2 x3 x4 x5 x6 x7 x8 x9 x10 b k r l

end Cert.ReferenceIdeal.Stages

end
-- ==== Proof.lean ====
/-
The certificate: the kernel and its idealised form leave their arguments and the semaphore counters as they found them, so
does the reference, the named constant is what it stands for, and the idealised kernel computes the reference.
-/
module

public import proofs.«01_k».proof.Defs
public import proofs.«01_k».proof.Proof.Gen.Kernel.Frame
public import proofs.«01_k».proof.Proof.Gen.ReferenceIdeal.Run
public import proofs.«01_k».proof.Proof.Final
public import proofs.«01_k».proof.Proof.Pre
public import proofs.«01_k».proof.Proof.Result

@[expose] public section

set_option maxRecDepth 16384

noncomputable section

namespace Cert.Proof

open Idealize.ShloMosaic Idealize.ShloMosaic.TcCoe Idealize.SL.Sem

/-- The shape facts of the precondition. -/
theorem facts_pre : Cert.Pre_finite.Facts := by
  constructor <;> decide

/-- The kernel leaves its arguments unchanged and every semaphore counter at zero. -/
theorem frame_kernel : @Cert.quiescent_Kernel Cert.Kernel.Gen.facts := fun m g _ => Cert.Kernel.Gen.frame m g

/-- So does the idealised kernel. -/
theorem frame_ideal : @Cert.quiescent_KernelIdeal Cert.KernelIdeal.Gen.facts := fun m g _ => Cert.KernelIdeal.Gen.frame m g

/-- The same from the memories the precondition admits. -/
theorem frame_ideal_finite : @Cert.quiescent_KernelIdeal_pre_finite Cert.KernelIdeal.Gen.facts facts_pre :=
  fun m g _ => Cert.KernelIdeal.Gen.frame m g

/-- The reference leaves its arguments unchanged, and has no semaphores. -/
theorem frame_reference : @Cert.quiescent_ReferenceIdeal Cert.ReferenceIdeal.Gen.facts := fun m g _ =>
  (θ_run Cert.ReferenceIdeal.defs _ _).mono (fun r h => ⟨fun c => (h c).2, sem_eq_zero_of_no_sems (by decide) r.2⟩)
    (Cert.ReferenceIdeal.Value.run (F := Ideal) m g)

/-- The same from the memories the precondition admits. -/
theorem frame_reference_finite : @Cert.quiescent_ReferenceIdeal_pre_finite Cert.ReferenceIdeal.Gen.facts facts_pre :=
  fun m g _ => frame_reference m g trivial

/-- The kernel's one rounded constant is named for the inverse of the square root of two. -/
theorem preserves : Cert.preserves_Kernel_KernelIdeal :=
  IdealRules.named_const.statement Cert.KernelIdeal.κ "sqrt_half" .f32 0x3F3504F3#32 (((Real.sqrt 2)⁻¹ : ℝ) : EReal) rfl

/-- The precondition makes the first bias and the two scales finite. -/
theorem finite_args (m : (ℓ : Loc Cert.KernelIdeal.nD Cert.KernelIdeal.τ Cert.KernelIdeal.sig) → Buf (Elt Ideal) ℓ)
    (h : @Cert.Pre_KernelIdeal_finite facts_pre m) (c : Dev Cert.KernelIdeal.nD) :
    Cert.KernelIdeal.Final.Finite (n := 512) (m ((c : Thread Cert.KernelIdeal.nD Cert.KernelIdeal.τ).loc Cert.KernelIdeal.main_arg4)) ∧
    Cert.KernelIdeal.Final.Finite (n := 512) (m ((c : Thread Cert.KernelIdeal.nD Cert.KernelIdeal.τ).loc Cert.KernelIdeal.main_arg5)) ∧
    Cert.KernelIdeal.Final.Finite (n := 256) (m ((c : Thread Cert.KernelIdeal.nD Cert.KernelIdeal.τ).loc Cert.KernelIdeal.main_arg9)) :=
  ⟨Cert.Pre_finite.finite_of_lt _ _ (h c).1, Cert.Pre_finite.finite_of_lt _ _ (h c).2.1,
    Cert.Pre_finite.finite_of_lt _ _ (h c).2.2⟩

/-- On memories that agree on the arguments, with a finite first bias and finite scales, the idealised kernel and the reference run to
    their ends with equal results and their arguments unchanged. -/
theorem algebraic : @Cert.algebraic_KernelIdeal_ReferenceIdeal_pre_finite Cert.KernelIdeal.Gen.facts
    Cert.ReferenceIdeal.Gen.facts facts_pre := by
  pair_intro
  · run_from Cert.KernelIdeal.Gen.run_main m g
  · run_from Cert.ReferenceIdeal.Value.run m' g'
    obtain ⟨h0, h1, h2, h3, h4, h5, h6, h7, h8, h9, h10, h11, h12⟩ := hagree c
    rw [← h11, ← h12]
    refine (Cert.ReferenceIdeal.Read.val_main_v183_eq (StableHlo.launchContents m' c)).trans ?_
    rw [Cert.KernelIdeal.Final.final m c]
    obtain ⟨hb1, hg1, hg2⟩ := finite_args m hpre c
    change Cert.ReferenceIdeal.Read.val_main_v183 (F := Ideal)
      (m' ((c : Thread Cert.ReferenceIdeal.nD Cert.ReferenceIdeal.τ).loc Cert.ReferenceIdeal.main_arg0))
      (m' ((c : Thread Cert.ReferenceIdeal.nD Cert.ReferenceIdeal.τ).loc Cert.ReferenceIdeal.main_arg1))
      (m' ((c : Thread Cert.ReferenceIdeal.nD Cert.ReferenceIdeal.τ).loc Cert.ReferenceIdeal.main_arg2))
      (m' ((c : Thread Cert.ReferenceIdeal.nD Cert.ReferenceIdeal.τ).loc Cert.ReferenceIdeal.main_arg3))
      (m' ((c : Thread Cert.ReferenceIdeal.nD Cert.ReferenceIdeal.τ).loc Cert.ReferenceIdeal.main_arg4))
      (m' ((c : Thread Cert.ReferenceIdeal.nD Cert.ReferenceIdeal.τ).loc Cert.ReferenceIdeal.main_arg5))
      (m' ((c : Thread Cert.ReferenceIdeal.nD Cert.ReferenceIdeal.τ).loc Cert.ReferenceIdeal.main_arg6))
      (m' ((c : Thread Cert.ReferenceIdeal.nD Cert.ReferenceIdeal.τ).loc Cert.ReferenceIdeal.main_arg7))
      (m' ((c : Thread Cert.ReferenceIdeal.nD Cert.ReferenceIdeal.τ).loc Cert.ReferenceIdeal.main_arg8))
      (m' ((c : Thread Cert.ReferenceIdeal.nD Cert.ReferenceIdeal.τ).loc Cert.ReferenceIdeal.main_arg9))
      (m' ((c : Thread Cert.ReferenceIdeal.nD Cert.ReferenceIdeal.τ).loc Cert.ReferenceIdeal.main_arg10))
      (m' ((c : Thread Cert.ReferenceIdeal.nD Cert.ReferenceIdeal.τ).loc Cert.ReferenceIdeal.main_arg11))
      (m' ((c : Thread Cert.ReferenceIdeal.nD Cert.ReferenceIdeal.τ).loc Cert.ReferenceIdeal.main_arg12)) = _
    rw [h0, h1, h2, h3, h4, h5, h6, h7, h8, h9, h10, h11, h12]
    exact funext fun y => (congrArg _ (eq_ix4 y)).trans
      ((Cert.ReferenceIdeal.Stages.result_at _ _ _ _ _ _ _ _ _ _ _ _ _ (y 0) (y 1) (y 2) (y 3)).trans
        (Cert.KernelIdeal.Final.out_at m c hb1 hg1 hg2 (y 0) (y 1) (y 2) (y 3)).symm)

/-- The certificate's claim. -/
theorem claim : Cert.Claim := ⟨Cert.Kernel.Gen.facts, Cert.KernelIdeal.Gen.facts, Cert.ReferenceIdeal.Gen.facts, facts_pre,
  frame_kernel, frame_ideal, frame_ideal_finite, frame_reference, frame_reference_finite, preserves, algebraic⟩

end Cert.Proof

end
